-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000 : Shape := ⟨1, ![1000000]⟩
abbrev S1000x1000 : Shape := ⟨2, ![1000, 1000]⟩
abbrev S1 : Shape := ⟨1, ![1]⟩
abbrev S40x1000 : Shape := ⟨2, ![40, 1000]⟩
abbrev S1x40x1000 : Shape := ⟨3, ![1, 40, 1000]⟩
abbrev S1x1x1 : Shape := ⟨3, ![1, 1, 1]⟩
abbrev S_ : Shape := ⟨0, ![]⟩

abbrev nBuf : Space → Nat
  | .hbm => 8
  | .vmem => 8
  | .smem => 2
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000x1000, .f32⟩
  | .hbm, ⟨3, _⟩ => ⟨S1000x1000, .f32⟩
  | .hbm, ⟨4, _⟩ => ⟨S1, .i32⟩
  | .hbm, ⟨5, _⟩ => ⟨S1, .f32⟩
  | .hbm, ⟨6, _⟩ => ⟨S_, .i32⟩
  | .hbm, ⟨7, _⟩ => ⟨S_, .f32⟩
  | .local _ .vmem, ⟨0, _⟩ => ⟨S40x1000, .f32⟩
  | .local _ .vmem, ⟨1, _⟩ => ⟨S40x1000, .f32⟩
  | .local _ .vmem, ⟨2, _⟩ => ⟨S40x1000, .f32⟩
  | .local _ .vmem, ⟨3, _⟩ => ⟨S40x1000, .f32⟩
  | .local _ .vmem, ⟨4, _⟩ => ⟨S40x1000, .f32⟩
  | .local _ .vmem, ⟨5, _⟩ => ⟨S40x1000, .i32⟩
  | .local _ .vmem, ⟨6, _⟩ => ⟨S40x1000, .f32⟩
  | .local _ .vmem, ⟨7, _⟩ => ⟨S40x1000, .f32⟩
  | .local _ .smem, ⟨0, _⟩ => ⟨S1, .i32⟩
  | .local _ .smem, ⟨1, _⟩ => ⟨S1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_9 : BitVec 32 := 0#32
  let v32 : BitVec 1 := Scalar.cmpi .ne v31 c0_i32_9
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S40x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1000000 : Shape := ⟨1, ![1000000]⟩
abbrev S_ : Shape := ⟨0, ![]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S_, .f32⟩
  | .hbm, ⟨3, _⟩ => ⟨S1000000, .f32⟩
  | .hbm, ⟨4, _⟩ => ⟨S1000000, .f32⟩
  | .hbm, ⟨5, _⟩ => ⟨S1000000, .f32⟩
  | .hbm, ⟨6, _⟩ => ⟨S1000000, .f32⟩
  | .hbm, ⟨7, _⟩ => ⟨S_, .f32⟩
  | .hbm, ⟨8, _⟩ => ⟨S1000000, .f32⟩
  | .hbm, ⟨9, _⟩ => ⟨S1000000, .f32⟩
  | .hbm, ⟨10, _⟩ => ⟨S1000000, .f32⟩
  | .hbm, ⟨11, _⟩ => ⟨S1000000, .f32⟩
  | .hbm, ⟨12, _⟩ => ⟨S1000000, .f32⟩
  | .hbm, ⟨13, _⟩ => ⟨S1000000, .i32⟩
  | .hbm, ⟨14, _⟩ => ⟨S_, .f32⟩
  | .hbm, ⟨15, _⟩ => ⟨S_, .i32⟩
  | .hbm, ⟨16, _⟩ => ⟨S_, .f32⟩
  | .hbm, ⟨17, _⟩ => ⟨S_, .i32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1000000, .f32⟩
  | .hbm, ⟨24, _⟩ => ⟨S1000000, .f32⟩
  | .hbm, ⟨25, _⟩ => ⟨S1000000, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S1000000, .f32⟩
  | .hbm, ⟨31, _⟩ => ⟨S1000000, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1, .f32⟩
  | .hbm, ⟨38, _⟩ => ⟨S_, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_cst : Ref sig .tc := ⟨.hbm, 14, rfl⟩
abbrev main_call0_c : Ref sig .tc := ⟨.hbm, 15, rfl⟩
abbrev main_call0_v1_0 : Ref sig .tc := ⟨.hbm, 16, rfl⟩
abbrev main_v9 : Ref sig .tc := ⟨.hbm, 17, rfl⟩
abbrev main_call1_cst : Ref sig .tc := ⟨.hbm, 18, rfl⟩
abbrev main_call1_v0 : Ref sig .tc := ⟨.hbm, 19, rfl⟩
abbrev main_call1_cst_0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_cst_1 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩

abbrev nD : Nat := 1
abbrev τ : Topo := Topo.v7x

variable {F : FTy → Type} [FloatOps F]
-- ==== Proof.Body.lean ====
/-
  What the kernel's scratch and outputs hold after each grid point, as functions of the point's two input blocks and
  of what the point before left.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Scan

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The zero offsets of a rank-two access. -/
theorem off2 : (![0, 0] : Fin 2 → Nat) = fun _ => 0 := funext fun a => by fin_cases a <;> rfl

/-- The zero offset of a rank-one access. -/
theorem off1 : (![0] : Fin 1 → Nat) = fun _ => 0 := funext fun a => by fin_cases a; rfl

/-- After the first point the scratch of best values holds what the first block gives. -/
theorem first_best (c : Dev nD) (t : Fin cfg0.N) (h0 : t.val % 25 = 0) (h1 : ¬1 ≤ t.val) (h2 : ¬t.val % 25 = 24) :
    (outsAt0 m c t.val t.isLt).2.2.1 = k0_pay5 (iblk m c 0 t) (iblk m c 1 t) := by
  rw [outsAt0_A m c t h0 h1 h2]
  dsimp only
  unfold sout0_A_0
  rw [View.read_writes_eq_canon _ _ _ (fun _ => scover0_A_0 ..)]
  unfold kernelRun0_A
  dsimp only
  rw [View.canon_unit_zero off2]
  simp only [View.readAt_eq_ld, (hs0_0 t).read_unread, (hs0_1 t).read_unread, View.ld_unit_zero (S := S40x1000) off2, shapeCast_self]

/-- After the first point the scratch of indexes holds what the first block gives. -/
theorem first_idx (c : Dev nD) (t : Fin cfg0.N) (h0 : t.val % 25 = 0) (h1 : ¬1 ≤ t.val) (h2 : ¬t.val % 25 = 24) :
    (outsAt0 m c t.val t.isLt).2.2.2.1 = k0_pay6 (grid0.coords t) := by
  rw [outsAt0_A m c t h0 h1 h2]
  dsimp only
  unfold sout0_A_1
  rw [View.read_writes_eq_canon _ _ _ (fun _ => scover0_A_1 ..)]
  unfold kernelRun0_A
  dsimp only
  rw [View.canon_unit_zero off2]

/-- After the first point the scratch of logits holds what the first block gives. -/
theorem first_blog (c : Dev nD) (t : Fin cfg0.N) (h0 : t.val % 25 = 0) (h1 : ¬1 ≤ t.val) (h2 : ¬t.val % 25 = 24) :
    (outsAt0 m c t.val t.isLt).2.2.2.2.1 = k0_pay7 (iblk m c 0 t) := by
  rw [outsAt0_A m c t h0 h1 h2]
  dsimp only
  unfold sout0_A_2
  rw [View.read_writes_eq_canon _ _ _ (fun _ => scover0_A_2 ..)]
  unfold kernelRun0_A
  dsimp only
  rw [View.canon_unit_zero off2]
  simp only [View.readAt_eq_ld, (hs0_0 t).read_unread, (hs0_1 t).read_unread, View.ld_unit_zero (S := S40x1000) off2, shapeCast_self]

/-- After the first point the scratch of sums holds what the first block gives. -/
theorem first_sum (c : Dev nD) (t : Fin cfg0.N) (h0 : t.val % 25 = 0) (h1 : ¬1 ≤ t.val) (h2 : ¬t.val % 25 = 24) :
    (outsAt0 m c t.val t.isLt).2.2.2.2.2 = k0_pay8 (iblk m c 0 t) := by
  rw [outsAt0_A m c t h0 h1 h2]
  dsimp only
  unfold sout0_A_3
  rw [View.read_writes_eq_canon _ _ _ (fun _ => scover0_A_3 ..)]
  unfold kernelRun0_A
  dsimp only
  rw [View.canon_unit_zero off2]
  simp only [View.readAt_eq_ld, (hs0_0 t).read_unread, (hs0_1 t).read_unread, View.ld_unit_zero (S := S40x1000) off2, shapeCast_self]

/-- After a middle point the scratch of best values holds the old contents updated by the block. -/
theorem middle_best (c : Dev nD) (t : Fin cfg0.N) (h0 : ¬t.val % 25 = 0) (h1 : 1 ≤ t.val) (h2 : ¬t.val % 25 = 24) :
    (outsAt0 m c t.val t.isLt).2.2.1 = k0_pay10 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 := by
  rw [outsAt0_B m c t h0 h1 h2]
  dsimp only
  unfold sout0_B_0
  rw [View.read_writes_eq_canon _ _ _ (fun _ => scover0_B_0 ..)]
  unfold kernelRun0_B
  dsimp only
  rw [View.canon_unit_zero off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]

/-- After a middle point the scratch of indexes holds the old contents updated by the block. -/
theorem middle_idx (c : Dev nD) (t : Fin cfg0.N) (h0 : ¬t.val % 25 = 0) (h1 : 1 ≤ t.val) (h2 : ¬t.val % 25 = 24) :
    (outsAt0 m c t.val t.isLt).2.2.2.1 = k0_pay11 (grid0.coords t) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_B m c t h0 h1 h2]
  dsimp only
  unfold sout0_B_1
  rw [View.read_writes_eq_canon _ _ _ (fun _ => scover0_B_1 ..)]
  unfold kernelRun0_B
  dsimp only
  rw [View.canon_unit_zero off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]

/-- After a middle point the scratch of logits holds the old contents updated by the block. -/
theorem middle_blog (c : Dev nD) (t : Fin cfg0.N) (h0 : ¬t.val % 25 = 0) (h1 : 1 ≤ t.val) (h2 : ¬t.val % 25 = 24) :
    (outsAt0 m c t.val t.isLt).2.2.2.2.1 = k0_pay12 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 := by
  rw [outsAt0_B m c t h0 h1 h2]
  dsimp only
  unfold sout0_B_2
  rw [View.read_writes_eq_canon _ _ _ (fun _ => scover0_B_2 ..)]
  unfold kernelRun0_B
  dsimp only
  rw [View.canon_unit_zero off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]

/-- After a middle point the scratch of sums holds the old contents updated by the block. -/
theorem middle_sum (c : Dev nD) (t : Fin cfg0.N) (h0 : ¬t.val % 25 = 0) (h1 : 1 ≤ t.val) (h2 : ¬t.val % 25 = 24) :
    (outsAt0 m c t.val t.isLt).2.2.2.2.2 = k0_pay13 (iblk m c 0 t) (outsAt0 m c (t.val - 1) (Nat.lt_of_le_of_lt (Nat.sub_le _ _) t.isLt)).2.2.2.2.2 := by
  rw [outsAt0_B m c t h0 h1 h2]
  dsimp only
  unfold sout0_B_3
  rw [View.read_writes_eq_canon _ _ _ (fun _ => scover0_B_3 ..)]
  unfold kernelRun0_B
  dsimp only
  rw [View.canon_unit_zero off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]

/-- After the last point the scratch of best values holds the old contents updated by the block. -/
theorem last_best (c : Dev nD) (t : Fin cfg0.N) (h0 : ¬t.val % 25 = 0) (h1 : 1 ≤ t.val) (h2 : t.val % 25 = 24) :
    (outsAt0 m c t.val t.isLt).2.2.1 = k0_pay10 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 := by
  rw [outsAt0_C m c t h0 h1 h2]
  dsimp only
  unfold sout0_C_0
  rw [View.read_writes_eq_canon _ _ _ (fun _ => scover0_C_0 ..)]
  unfold kernelRun0_C
  dsimp only
  sl_unfold_words
  rw [View.canon_unit_zero off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]

/-- After the last point the scratch of indexes holds the old contents updated by the block. -/
theorem last_idx (c : Dev nD) (t : Fin cfg0.N) (h0 : ¬t.val % 25 = 0) (h1 : 1 ≤ t.val) (h2 : t.val % 25 = 24) :
    (outsAt0 m c t.val t.isLt).2.2.2.1 = k0_pay11 (grid0.coords t) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_C m c t h0 h1 h2]
  dsimp only
  unfold sout0_C_1
  rw [View.read_writes_eq_canon _ _ _ (fun _ => scover0_C_1 ..)]
  unfold kernelRun0_C
  dsimp only
  sl_unfold_words
  rw [View.canon_unit_zero off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]

/-- After the last point the scratch of logits holds the old contents updated by the block. -/
theorem last_blog (c : Dev nD) (t : Fin cfg0.N) (h0 : ¬t.val % 25 = 0) (h1 : 1 ≤ t.val) (h2 : t.val % 25 = 24) :
    (outsAt0 m c t.val t.isLt).2.2.2.2.1 = k0_pay12 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2.2.1 := by
  rw [outsAt0_C m c t h0 h1 h2]
  dsimp only
  unfold sout0_C_2
  rw [View.read_writes_eq_canon _ _ _ (fun _ => scover0_C_2 ..)]
  unfold kernelRun0_C
  dsimp only
  sl_unfold_words
  rw [View.canon_unit_zero off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]

/-- After the last point the scratch of sums holds the old contents updated by the block. -/
theorem last_sum (c : Dev nD) (t : Fin cfg0.N) (h0 : ¬t.val % 25 = 0) (h1 : 1 ≤ t.val) (h2 : t.val % 25 = 24) :
    (outsAt0 m c t.val t.isLt).2.2.2.2.2 = k0_pay13 (iblk m c 0 t) (outsAt0 m c (t.val - 1) (Nat.lt_of_le_of_lt (Nat.sub_le _ _) t.isLt)).2.2.2.2.2 := by
  rw [outsAt0_C m c t h0 h1 h2]
  dsimp only
  unfold sout0_C_3
  rw [View.read_writes_eq_canon _ _ _ (fun _ => scover0_C_3 ..)]
  unfold kernelRun0_C
  dsimp only
  sl_unfold_words
  rw [View.canon_unit_zero off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]

/-- The first output after the last point: the least index among the winning lanes of the final scratch. -/
theorem last_act (c : Dev nD) (t : Fin cfg0.N) (h0 : ¬t.val % 25 = 0) (h1 : 1 ≤ t.val) (h2 : t.val % 25 = 24) :
    (outsAt0 m c t.val t.isLt).1 = fun _ => extractAt ![0, 0, 0] (k0_pay15 (outsAt0 m c t.val t.isLt).2.2.1 (outsAt0 m c t.val t.isLt).2.2.2.1) inpos_S1x1x1_p0_0_0 := by
  rw [last_best m c t h0 h1 h2, last_idx m c t h0 h1 h2, outsAt0_C m c t h0 h1 h2]
  dsimp only
  unfold out0_C_2
  rw [View.read_writes_eq_canon _ _ _ (fun _ => cover0_C_2 ..)]
  unfold kernelRun0_C
  dsimp only
  sl_unfold_words
  rw [View.canon_unit_zero off1]
  simp only [View.readCov_unit_zero (S := S40x1000) _ off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]
  rfl

/-- The second output after the last point. -/
theorem last_lp (c : Dev nD) (t : Fin cfg0.N) (h0 : ¬t.val % 25 = 0) (h1 : 1 ≤ t.val) (h2 : t.val % 25 = 24) :
    (outsAt0 m c t.val t.isLt).2.1 = fun _ => k0_pay16 (outsAt0 m c t.val t.isLt).2.2.1 (outsAt0 m c t.val t.isLt).2.2.2.1 (outsAt0 m c t.val t.isLt).2.2.2.1 (outsAt0 m c t.val t.isLt).2.2.2.2.1 (outsAt0 m c t.val t.isLt).2.2.2.2.2 := by
  rw [last_best m c t h0 h1 h2, last_idx m c t h0 h1 h2, last_blog m c t h0 h1 h2, last_sum m c t h0 h1 h2, outsAt0_C m c t h0 h1 h2]
  dsimp only
  unfold out0_C_3
  rw [View.read_writes_eq_canon _ _ _ (fun _ => cover0_C_3 ..)]
  unfold kernelRun0_C
  dsimp only
  sl_unfold_words
  rw [View.canon_unit_zero off1]
  simp only [View.readCov_unit_zero (S := S40x1000) _ off2]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread, View.ld_unit_zero (S := S40x1000) off2, shapeCast_self]
  rfl

end Cert.KernelIdeal.Scan

end
-- ==== Proof.Final.lean ====
/-
  The kernel's run read back: its two results are the reshaped outputs of the last grid point, and the blocks the
  points read are slices of the arguments.
-/
module

public import proofs.«01_k».proof.Proof.Body
public import Idealize.ShloMosaic.Lib.StableHlo.Run

@[expose] public section

set_option maxRecDepth 16384

noncomputable section

namespace Cert.KernelIdeal.Scan

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The last grid point. -/
abbrev tLast : Fin cfg0.N := ⟨24, by rw [show cfg0.N = 25 from N_0]; decide⟩

/-- The one write-back of the first output, at the last point, writes what that point left. -/
theorem flushed_act (c : Dev nD) (t : Fin cfg0.N) (hf : (cfg0.win 2).flush t = true) :
    (dats m 0 c).flushed 2 t = ((cfg0.win 2).blk t).view.read (Elt F) (outsAt0 m c 24 tLast.isLt).1 := by
  have hN : cfg0.N = 25 := N_0
  have h3 : t.val = 24 := by have := (flush0_2 t).mp hf; have := t.isLt; omega
  obtain rfl : t = tLast := Fin.ext h3
  show (cfg0.win 2).cut (grid0.coords tLast) ((dats m 0 c).after 2 tLast) = _
  rw [after0_2]
  have hz' : (fun a => win0_2.index tLast a * main_v2_0.ty.shape.size a) = fun _ => 0 := funext fun a => by fin_cases a; decide
  exact (Memref.read_access_unit_zero (Elt F) main_v2_0 hz' (fun a => by rw [congrFun hz' a]; simp) (outsAt0 m c 24 tLast.isLt).1).symm

/-- The one write-back of the second output, at the last point, writes what that point left. -/
theorem flushed_lp (c : Dev nD) (t : Fin cfg0.N) (hf : (cfg0.win 3).flush t = true) :
    (dats m 0 c).flushed 3 t = ((cfg0.win 3).blk t).view.read (Elt F) (outsAt0 m c 24 tLast.isLt).2.1 := by
  have hN : cfg0.N = 25 := N_0
  have h3 : t.val = 24 := by have := (flush0_3 t).mp hf; have := t.isLt; omega
  obtain rfl : t = tLast := Fin.ext h3
  show (cfg0.win 3).cut (grid0.coords tLast) ((dats m 0 c).after 3 tLast) = _
  rw [after0_3]
  have hz' : (fun a => win0_3.index tLast a * main_v2_1.ty.shape.size a) = fun _ => 0 := funext fun a => by fin_cases a; decide
  exact (Memref.read_access_unit_zero (Elt F) main_v2_1 hz' (fun a => by rw [congrFun hz' a]; simp) (outsAt0 m c 24 tLast.isLt).2.1).symm

/-- The first output's array ends holding what the last point left. -/
theorem final_act (c : Dev nD) : (dats m 0 c).arrAt 2 cfg0.N = (outsAt0 m c 24 tLast.isLt).1 :=
  (dats m 0 c).arrAt_eq_of_cover 2 (outsAt0 m c 24 tLast.isLt).1 (flushed_act m c) fun i =>
    ⟨tLast, (flush0_2 tLast).mpr rfl, by
      show i ∈ ((View.whole main_v2_0).slice (win0_2.rect tLast)).set
      rw [View.set_slice_whole, Rect.mem_set_unit]
      intro a
      have h0 : (i 0 : Nat) < 1 := (i 0).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega⟩

/-- The second output's array ends holding what the last point left. -/
theorem final_lp (c : Dev nD) : (dats m 0 c).arrAt 3 cfg0.N = (outsAt0 m c 24 tLast.isLt).2.1 :=
  (dats m 0 c).arrAt_eq_of_cover 3 (outsAt0 m c 24 tLast.isLt).2.1 (flushed_lp m c) fun i =>
    ⟨tLast, (flush0_3 tLast).mpr rfl, by
      show i ∈ ((View.whole main_v2_1).slice (win0_3.rect tLast)).set
      rw [View.set_slice_whole, Rect.mem_set_unit]
      intro a
      have h0 : (i 0 : Nat) < 1 := (i 0).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega⟩

/-- The first result: the first output's array as a scalar. -/
abbrev resAct (c : Dev nD) : Buf (Elt F) ((c : Thread nD τ).loc main_v3) :=
  shapeCast S_ (outsAt0 m c 24 tLast.isLt).1 shapeCasts_S1_S_

/-- The second result: the second output's array as a scalar. -/
abbrev resLp (c : Dev nD) : Buf (Elt F) ((c : Thread nD τ).loc main_v4) :=
  shapeCast S_ (outsAt0 m c 24 tLast.isLt).2.1 shapeCasts_S1_S_

/-- The four windows stage four different arrays. -/
theorem arrs_inj : Function.Injective (Pipeline.arrRef spec0) := by decide

/-- The closing reshapes leave the first result at the reshaped first output. -/
theorem tail_act (c : Dev nD) : Pipeline.afterTail₀ cfgs (dats m) 0 (V0 m) [hostOps1] c main_v3 = resAct m c := by
  unfold Pipeline.afterTail₀
  have e := Pipeline.withArrays_arr (τ := τ) spec0 arrs_inj c (V0 m c) (fun w => (dats m 0 c).arrAt w cfg0.N) 2
  rw [final_act m c] at e
  simp only [hostOps1, List.flatten_cons, List.flatten_nil, List.append_nil]
  after_results
  exact congrArg (fun v => shapeCast S_ v shapeCasts_S1_S_) e

/-- The closing reshapes leave the second result at the reshaped second output. -/
theorem tail_lp (c : Dev nD) : Pipeline.afterTail₀ cfgs (dats m) 0 (V0 m) [hostOps1] c main_v4 = resLp m c := by
  unfold Pipeline.afterTail₀
  have e := Pipeline.withArrays_arr (τ := τ) spec0 arrs_inj c (V0 m c) (fun w => (dats m 0 c).arrAt w cfg0.N) 3
  rw [final_lp m c] at e
  simp only [hostOps1, List.flatten_cons, List.flatten_nil, List.append_nil]
  after_results
  exact congrArg (fun v => shapeCast S_ v shapeCasts_S1_S_) e

/-- The kernel's run: both results at the last point's outputs, the arguments unchanged. -/
theorem run : θ_run defs (onTc (τ := τ) (main (F := F))) ⟨m, fun _ => 0, ρ⟩ fun r => ∀ c : Dev nD,
      r.2.mem ((c : Thread nD τ).loc main_v3) = resAct m c
      ∧ r.2.mem ((c : Thread nD τ).loc main_v4) = resLp m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_act m c),
     ((h c).2 main_v4 (Pipeline.mem_restRefs_of main_v4 (by decide) (by decide))).trans (tail_lp m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- Number `k` as an index of the flat arrays. -/
def pos (k : Fin 1000000) : S1000000.Idx := fun a => ⟨k.val, by fin_cases a; exact k.isLt⟩

/-- The number of position `(r, l)` of grid block `k`: the blocks are runs of 40000 consecutive elements. -/
def num (k : Fin 25) (j : S40x1000.Idx) : Fin 1000000 :=
  ⟨k.val * 40000 + ((j 0).val * 1000 + (j 1).val), by
    have h0 : (j 0).val < 40 := (j 0).isLt
    have h1 : (j 1).val < 1000 := (j 1).isLt
    have := k.isLt
    omega⟩

/-- The array the first window reads is the first argument in rows of 1000. -/
theorem entry_v0 (c : Dev nD) : V m c main_v0 = shapeCast S1000x1000 (m ((c : Thread nD τ).loc main_arg0)) shapeCasts_S1000000_S1000x1000 := by
  show StableHlo.after [StableHlo.reshape main_arg0 main_v0 _ _, StableHlo.reshape main_arg1 main_v1 _ _] _ _ = _
  after_results
  rfl

/-- The array the second window reads is the second argument in rows of 1000. -/
theorem entry_v1 (c : Dev nD) : V m c main_v1 = shapeCast S1000x1000 (m ((c : Thread nD τ).loc main_arg1)) shapeCasts_S1000000_S1000x1000 := by
  show StableHlo.after [StableHlo.reshape main_arg0 main_v0 _ _, StableHlo.reshape main_arg1 main_v1 _ _] _ _ = _
  after_results
  rfl

/-- In rows of 1000, an element sits where its number divided by 1000 says. -/
theorem rows_apply {α : Type} (x : S1000000.Idx → α) (i : S1000x1000.Idx) (k : Fin 1000000)
    (h : k.val = (i 0).val * 1000 + (i 1).val) : shapeCast S1000x1000 x shapeCasts_S1000000_S1000x1000 i = x (pos k) := by
  apply shapeCast_apply
  show (Shape.rowMajorPi S1000000.size (pos k)).val = (Shape.rowMajorPi S1000x1000.size i).val
  rw [Shape.rowMajorPi_succ_val, Shape.rowMajorPi_succ_val, Shape.rowMajorPi_succ_val]
  simp [Fin.prod_univ_succ, Shape.rowMajorPi_zero]
  exact h

/-- The first window's block index at point `t` is `(t, 0)`. -/
theorem index0 : ∀ t : Fin cfg0.N, win0_0.index t 0 = t.val ∧ win0_0.index t 1 = 0 := by decide +kernel

/-- The second window's block index at point `t` is `(t, 0)`. -/
theorem index1 : ∀ t : Fin cfg0.N, win0_1.index t 0 = t.val ∧ win0_1.index t 1 = 0 := by decide +kernel

/-- Block `t` of the first window reads elements `40000 t` onwards of the first argument. -/
theorem iblk0_apply (c : Dev nD) (t : Fin cfg0.N) (k : Fin 25) (hk : k.val = t.val) (j : S40x1000.Idx) :
    (iblk m c 0 t : Vec F S40x1000 .f32) j = m ((c : Thread nD τ).loc main_arg0) (pos (num k j)) := by
  have hi := index0 t
  unfold iblk
  rw [View.read_apply]
  show V m c main_v0 _ = _
  rw [entry_v0]
  apply rows_apply
  show k.val * 40000 + ((j 0).val * 1000 + (j 1).val) = (win0_0.index t 0 * 40 + 1 * (j 0).val) * 1000 + (win0_0.index t 1 * 1000 + 1 * (j 1).val)
  rw [hi.1, hi.2, hk]; omega

/-- Block `t` of the second window reads elements `40000 t` onwards of the second argument. -/
theorem iblk1_apply (c : Dev nD) (t : Fin cfg0.N) (k : Fin 25) (hk : k.val = t.val) (j : S40x1000.Idx) :
    (iblk m c 1 t : Vec F S40x1000 .f32) j = m ((c : Thread nD τ).loc main_arg1) (pos (num k j)) := by
  have hi := index1 t
  unfold iblk
  rw [View.read_apply]
  show V m c main_v1 _ = _
  rw [entry_v1]
  apply rows_apply
  show k.val * 40000 + ((j 0).val * 1000 + (j 1).val) = (win0_1.index t 0 * 40 + 1 * (j 0).val) * 1000 + (win0_1.index t 1 * 1000 + 1 * (j 1).val)
  rw [hi.1, hi.2, hk]; omega

end Cert.KernelIdeal.Scan

end
-- ==== Proof.Maths.lean ====
/-
  The plain mathematics of the certificate, with no program in it: the first place of a maximum, how a search finds it,
  and the logarithm of a softmax with and without the greatest entry taken off.
-/
module

public import Idealize.ShloMosaic.PureOps
public import Idealize.ShloMosaic.PureOps.Ideal
public import Idealize.ShloMosaic.PureOps.Ideal.Laws

@[expose] public section

noncomputable section

namespace Cert.Maths

open Idealize.ShloMosaic

/-! ## The first place of the maximum -/

/-- `a` is the first place where `p` takes its greatest value. -/
def IsFirst {n : ℕ} (p : Fin n → EReal) (a : Fin n) : Prop :=
  (∀ k, p k ≤ p a) ∧ ∀ k, k < a → p k < p a

/-- There is only one first place. -/
theorem IsFirst.unique {n : ℕ} {p : Fin n → EReal} {a b : Fin n} (ha : IsFirst p a) (hb : IsFirst p b) : a = b := by
  rcases lt_trichotomy a b with h | h | h
  · exact absurd (hb.2 a h) (not_lt.mpr (ha.1 b))
  · exact h
  · exact absurd (ha.2 b h) (not_lt.mpr (hb.1 a))

/-- One step of a search: the last entry wins exactly when it exceeds the best so far. -/
theorem isFirst_snoc {n : ℕ} (p : Fin (n + 1) → EReal) (k : Fin n) (hk : IsFirst (fun i : Fin n => p i.castSucc) k) :
    (p k.castSucc < p (Fin.last n) → IsFirst p (Fin.last n)) ∧ (p (Fin.last n) ≤ p k.castSucc → IsFirst p k.castSucc) := by
  constructor
  · intro h
    refine ⟨fun i => ?_, fun i hi => ?_⟩
    · induction i using Fin.lastCases with
      | last => exact le_rfl
      | cast i => exact (hk.1 i).trans h.le
    · induction i using Fin.lastCases with
      | last => exact absurd hi (lt_irrefl _)
      | cast i => exact (hk.1 i).trans_lt h
  · intro h
    refine ⟨fun i => ?_, fun i hi => ?_⟩
    · induction i using Fin.lastCases with
      | last => exact h
      | cast i => exact hk.1 i
    · induction i using Fin.lastCases with
      | last => exact absurd hi (not_lt.mpr (Fin.castSucc_lt_last k).le)
      | cast i => exact hk.2 i (Fin.castSucc_lt_castSucc_iff.mp hi)

/-! ## The reference's search -/

/-- A number below 2^31 read back from its signed word. -/
theorem toInt_ofNat {a : ℕ} (ha : a < 2 ^ 31) : (BitVec.ofNat 32 a).toInt = a := by
  have h : (BitVec.ofNat 32 a).toNat = a := by rw [BitVec.toNat_ofNat]; omega
  rw [BitVec.toInt_eq_toNat_of_lt (by rw [h]; omega), h]

/-- A smaller number below 2^31 is smaller as a signed word. -/
theorem slt_ofNat {a b : ℕ} (ha : a < 2 ^ 31) (hb : b < 2 ^ 31) :
    IntOp.cmpi .slt (BitVec.ofNat 32 a) (BitVec.ofNat 32 b) = BitVec.ofBool (decide (a < b)) := by
  unfold IntOp.cmpi
  simp only [BitVec.slt, toInt_ofNat ha, toInt_ofNat hb, Int.ofNat_lt, Nat.cast_lt]

/-- What the search keeps of a pair so far and the next pair: the greater value, and at equal values the earlier place. -/
def better (a b : EReal × BitVec 32) : EReal × BitVec 32 :=
  (if b.1 < a.1 then a.1 else b.1,
   if b.1 < a.1 ∨ (a.1 = b.1 ∧ IntOp.cmpi .slt a.2 b.2 = 1#1) then a.2 else b.2)

/-- Searching `p` from minus infinity at place zero ends at the first place of the maximum. -/
theorem search_first : ∀ (n : ℕ), n < 2 ^ 31 → ∀ p : Fin (n + 1) → EReal, ∃ a : Fin (n + 1), IsFirst p a ∧
    (List.finRange (n + 1)).foldl (fun r k => better r (p k, BitVec.ofNat 32 k.val)) (⊥, 0#32) = (p a, BitVec.ofNat 32 a.val)
  | 0, _, p => by
    have hk : ∀ k : Fin (0 + 1), k = 0 := fun k => Fin.ext (by have := k.isLt; simp only [Fin.val_zero]; omega)
    refine ⟨0, ⟨fun k => by rw [hk k], fun k h => absurd h (by rw [hk k]; exact lt_irrefl _)⟩, ?_⟩
    have : List.finRange (0 + 1) = [0] := by decide
    rw [this]
    simp [better]
  | n + 1, hn, p => by
    obtain ⟨k, hk, e⟩ := search_first n (by omega) (fun i => p i.castSucc)
    have hs := isFirst_snoc p k hk
    rw [List.finRange_succ_last, List.foldl_append, List.foldl_map]
    have e' : (List.finRange (n + 1)).foldl (fun r (i : Fin (n + 1)) => better r (p i.castSucc, BitVec.ofNat 32 i.castSucc.val))
        (⊥, 0#32) = (p k.castSucc, BitVec.ofNat 32 k.castSucc.val) := e
    rw [e']
    have hlt : IntOp.cmpi .slt (BitVec.ofNat 32 k.castSucc.val) (BitVec.ofNat 32 (Fin.last (n + 1)).val) = 1#1 := by
      rw [slt_ofNat (by have := k.isLt; simp only [Fin.val_castSucc]; omega) (by simp only [Fin.val_last]; omega)]
      have : k.castSucc.val < (Fin.last (n + 1)).val := Fin.castSucc_lt_last k
      rw [decide_eq_true this]; rfl
    rcases lt_or_ge (p k.castSucc) (p (Fin.last (n + 1))) with h | h
    · refine ⟨Fin.last (n + 1), hs.1 h, ?_⟩
      have h1 : ¬ p (Fin.last (n + 1)) < p k.castSucc := not_lt.mpr h.le
      have h2 : ¬ p k.castSucc = p (Fin.last (n + 1)) := h.ne
      simp only [List.foldl_cons, List.foldl_nil, better, if_neg h1, h1, h2, false_and, or_self, if_false]
    · refine ⟨k.castSucc, hs.2 h, ?_⟩
      rcases h.lt_or_eq with h | h
      · simp only [List.foldl_cons, List.foldl_nil, better, if_pos h, h, true_or, if_true]
      · have h1 : ¬ p (Fin.last (n + 1)) < p k.castSucc := by rw [h]; exact lt_irrefl _
        simp only [List.foldl_cons, List.foldl_nil, better, if_neg h1, h.symm, hlt, and_self, or_true, if_true, lt_irrefl, if_false]

/-- The same, for any number of entries that is not zero. -/
theorem search_first_pos (N : ℕ) (h0 : 0 < N) (hN : N ≤ 2 ^ 31) (p : Fin N → EReal) : ∃ a : Fin N, IsFirst p a ∧
    (List.finRange N).foldl (fun r k => better r (p k, BitVec.ofNat 32 k.val)) (⊥, 0#32) = (p a, BitVec.ofNat 32 a.val) := by
  obtain ⟨n, rfl⟩ : ∃ n, N = n + 1 := ⟨N - 1, by omega⟩
  exact search_first n (by omega) p

/-! ## Folds of the maximum and of the minimum -/

/-- The maximum of a family, folded from minus infinity: an upper bound, and attained. -/
theorem fold_max {ι : Type} [Fintype ι] (op : EReal → EReal → EReal) [Std.Commutative op] [Std.Associative op]
    (hop : op = max) (b : EReal) (hb : b = ⊥) (s : Finset ι) (hs : ∀ i, i ∈ s) (f : ι → EReal) (i₀ : ι) :
    (∀ i, f i ≤ s.fold op b f) ∧ ∃ i, f i = s.fold op b f := by
  subst hop hb
  have hle : ∀ i, f i ≤ s.fold max ⊥ f := fun i => (Finset.le_fold_max _).mpr (Or.inr ⟨i, hs i, le_rfl⟩)
  refine ⟨hle, ?_⟩
  rcases (Finset.le_fold_max _).mp (le_refl (s.fold max ⊥ f)) with h | ⟨i, _, h⟩
  · exact ⟨i₀, le_antisymm (hle i₀) (h.trans bot_le)⟩
  · exact ⟨i, le_antisymm (hle i) h⟩

/-- The signed minimum of words that are all at least `a`, one of them being `a`, is `a`. -/
theorem fold_min {ι : Type} (a : ℕ) (ha : a < 2 ^ 31) (b : BitVec 32) (hb : (a : ℤ) ≤ b.toInt) (f : ι → BitVec 32)
    (hf : ∀ i, (a : ℤ) ≤ (f i).toInt) (i₀ : ι) (h₀ : f i₀ = BitVec.ofNat 32 a) (s : Finset ι) :
    (a : ℤ) ≤ (s.fold IKind.minsi.op b f).toInt ∧ (i₀ ∈ s → s.fold IKind.minsi.op b f = BitVec.ofNat 32 a) := by
  classical
  have hop : ∀ x y : BitVec 32, IKind.minsi.op x y = if x.toInt < y.toInt then x else y := fun x y => by
    show (if x.slt y then x else y) = _
    simp only [BitVec.slt, decide_eq_true_eq]
  induction s using Finset.induction_on with
  | empty => exact ⟨by simpa using hb, fun h => absurd h (Finset.notMem_empty _)⟩
  | insert i s hi ih =>
    rw [Finset.fold_insert hi, hop]
    refine ⟨?_, fun h => ?_⟩
    · split
      · exact hf i
      · exact ih.1
    · rcases Finset.mem_insert.mp h with rfl | h
      · split
        · exact h₀
        · next hn =>
          apply BitVec.eq_of_toInt_eq
          have e := congrArg BitVec.toInt h₀
          rw [toInt_ofNat ha] at e ⊢
          have := ih.1
          omega
      · have e := congrArg BitVec.toInt (ih.2 h)
        rw [toInt_ofNat ha] at e
        rw [if_neg (by have := hf i; omega)]
        exact ih.2 h

/-! ## The noise -/

/-- The noise made of a uniform number `u`, with the small number `e` under each logarithm. -/
def noise (e u : EReal) : EReal := -Ideal.log (-Ideal.log (u + e) + e)

/-! ## What one lane keeps -/

/-- What a lane holds after its entries up to number `n`, with the scores `p`, the logits `x` and the words `w` of its
    entries: the first best score `b`, its word `i`, its logit `l`, and the sum `s` of the exponentials of the logits. -/
def Kept (n : ℕ) (p x : Fin 25 → EReal) (w : Fin 25 → BitVec 32) (b : EReal) (i : BitVec 32) (l s : EReal) : Prop :=
  (∃ k : Fin 25, k.val ≤ n ∧ b = p k ∧ i = w k ∧ l = x k ∧ (∀ r : Fin 25, r.val ≤ n → p r ≤ p k) ∧ ∀ r, r < k → p r < p k)
    ∧ s = ∑ r ∈ Finset.univ.filter (fun r : Fin 25 => r.val ≤ n), Ideal.exp (x r)

/-- After its first entry a lane holds that entry. -/
theorem Kept.zero (p x : Fin 25 → EReal) (w : Fin 25 → BitVec 32) : Kept 0 p x w (p 0) (w 0) (x 0) (Ideal.exp (x 0)) := by
  refine ⟨⟨0, le_rfl, rfl, rfl, rfl, fun r hr => ?_, fun r hr => absurd hr (Fin.not_lt_zero r)⟩, ?_⟩
  · rw [show r = 0 from Fin.ext (Nat.le_zero.mp hr)]
  · rw [show (Finset.univ.filter fun r : Fin 25 => r.val ≤ 0) = {0} from by decide, Finset.sum_singleton]

/-- The next entry replaces what the lane holds exactly when its score is greater; its exponential is added. -/
theorem Kept.step {n : ℕ} {p x : Fin 25 → EReal} {w : Fin 25 → BitVec 32} {b : EReal} {i : BitVec 32} {l s : EReal}
    (h : Kept n p x w b i l s) (t : Fin 25) (ht : t.val = n + 1) :
    Kept (n + 1) p x w (if b < p t then p t else b) (if b < p t then w t else i) (if b < p t then x t else l)
      (s + Ideal.exp (x t)) := by
  obtain ⟨⟨k, hk, rfl, rfl, rfl, h1, h2⟩, rfl⟩ := h
  refine ⟨?_, ?_⟩
  · have hcase : ∀ r : Fin 25, r.val ≤ n + 1 → r.val ≤ n ∨ r = t := fun r hr => by
      rcases Nat.lt_or_ge n r.val with h | h
      · exact Or.inr (Fin.ext (by omega))
      · exact Or.inl h
    by_cases hlt : p k < p t
    · simp only [if_pos hlt]
      refine ⟨t, by omega, rfl, rfl, rfl, fun r hr => ?_, fun r hr => ?_⟩
      · rcases hcase r hr with h | rfl
        · exact (h1 r h).trans hlt.le
        · exact le_rfl
      · exact (h1 r (by have : r.val < t.val := hr; omega)).trans_lt hlt
    · simp only [if_neg hlt]
      refine ⟨k, by omega, rfl, rfl, rfl, fun r hr => ?_, h2⟩
      rcases hcase r hr with h | rfl
      · exact h1 r h
      · exact not_lt.mp hlt
  · have e : (Finset.univ.filter fun r : Fin 25 => r.val ≤ n + 1)
        = insert t (Finset.univ.filter fun r : Fin 25 => r.val ≤ n) := by
      ext r
      simp only [Finset.mem_filter, Finset.mem_univ, true_and, Finset.mem_insert, Fin.ext_iff]
      omega
    rw [e, Finset.sum_insert (by simp only [Finset.mem_filter, Finset.mem_univ, true_and]; omega), add_comm]

/-- After all its entries a lane holds the first best of them all and the whole sum. -/
theorem Kept.all {p x : Fin 25 → EReal} {w : Fin 25 → BitVec 32} {b : EReal} {i : BitVec 32} {l s : EReal}
    (h : Kept 24 p x w b i l s) : (∃ k, IsFirst p k ∧ b = p k ∧ i = w k ∧ l = x k) ∧ s = ∑ r, Ideal.exp (x r) := by
  obtain ⟨⟨k, _, e1, e2, e3, h1, h2⟩, e4⟩ := h
  refine ⟨⟨k, ⟨fun r => h1 r (by have := r.isLt; omega), h2⟩, e1, e2, e3⟩, ?_⟩
  rw [e4, Finset.filter_true_of_mem fun r _ => by have := r.isLt; omega]

/-! ## The logarithm of a softmax -/

/-- An exponential is at least zero. -/
theorem exp_nonneg (x : EReal) : 0 ≤ Ideal.exp x := by
  induction x with
  | bot => simp
  | top => simp
  | coe r => rw [Ideal.exp_coe]; exact_mod_cast (Real.exp_pos r).le

/-- Below plus infinity an exponential is a real number. -/
theorem exp_real (x : EReal) (h : x ≠ ⊤) : ∃ e : ℝ, 0 ≤ e ∧ Ideal.exp x = e ∧ (x ≠ ⊥ → 0 < e)
    ∧ ∀ M : ℝ, Ideal.exp (x - M) = ((e * Real.exp (-M) : ℝ) : EReal) := by
  induction x with
  | bot =>
    refine ⟨0, le_rfl, by simp, fun h => absurd rfl h, fun M => ?_⟩
    rw [sub_eq_add_neg, EReal.bot_add, Ideal.exp_bot, zero_mul, EReal.coe_zero]
  | top => exact absurd rfl h
  | coe r =>
    refine ⟨Real.exp r, (Real.exp_pos r).le, Ideal.exp_coe r, fun _ => Real.exp_pos r, fun M => ?_⟩
    rw [← EReal.coe_sub, Ideal.exp_coe, sub_eq_add_neg, Real.exp_add]

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s h ih => rw [Finset.sum_insert h, Finset.sum_insert h, EReal.coe_add, ih]

/-- The logarithm of the softmax of `x` at `a`: taking the greatest entry `M` off first changes nothing, infinities
    included. -/
theorem log_softmax_eq {ι : Type} [Fintype ι] (x : ι → EReal) (M : EReal) (hM : ∀ i, x i ≤ M) (hA : ∃ i, x i = M) (a : ι) :
    (x a - M) - Ideal.log (∑ i, Ideal.exp (x i - M)) = x a - Ideal.log (∑ i, Ideal.exp (x i)) := by
  obtain ⟨i₀, hi₀⟩ := hA
  induction M with
  | bot =>
    have h : x a = ⊥ := le_bot_iff.mp (hM a)
    rw [h, sub_eq_add_neg, sub_eq_add_neg, sub_eq_add_neg, EReal.bot_add, EReal.bot_add, EReal.bot_add]
  | top =>
    have hs : ∑ i, Ideal.exp (x i) = ⊤ := by
      refine top_le_iff.mp ?_
      have h1 : Ideal.exp (x i₀) ≤ ∑ i, Ideal.exp (x i) :=
        Finset.single_le_sum (f := fun i => Ideal.exp (x i)) (fun i _ => exp_nonneg (x i)) (Finset.mem_univ i₀)
      rwa [hi₀, Ideal.exp_top] at h1
    have h2 : ∀ y : EReal, y - ⊤ = ⊥ := fun y => by rw [sub_eq_add_neg, EReal.neg_top, EReal.add_bot]
    rw [hs, Ideal.log_top, h2, sub_eq_add_neg, EReal.bot_add]
  | coe M =>
    have hne : ∀ i, x i ≠ ⊤ := fun i h => by
      have := hM i; rw [h, top_le_iff] at this; exact EReal.coe_ne_top M this
    choose e he0 he hpos hsub using fun i => exp_real (x i) (hne i)
    have hS : 0 < ∑ i, e i :=
      Finset.sum_pos' (fun i _ => he0 i) ⟨i₀, Finset.mem_univ _, hpos i₀ (by rw [hi₀]; exact EReal.coe_ne_bot M)⟩
    have h1 : ∑ i, Ideal.exp (x i) = ((∑ i, e i : ℝ) : EReal) := by
      rw [coe_sum]; exact Finset.sum_congr rfl fun i _ => he i
    have h2 : ∑ i, Ideal.exp (x i - M) = (((∑ i, e i) * Real.exp (-M) : ℝ) : EReal) := by
      rw [Finset.sum_mul, coe_sum]; exact Finset.sum_congr rfl fun i _ => hsub i M
    rw [h1, h2, Ideal.log_coe, Ideal.log_coe, if_neg (not_le.mpr hS), if_neg (not_le.mpr (mul_pos hS (Real.exp_pos _))),
      Real.log_mul hS.ne' (Real.exp_pos _).ne', Real.log_exp]
    induction hx : x a with
    | bot => rw [sub_eq_add_neg, sub_eq_add_neg, sub_eq_add_neg, EReal.bot_add, EReal.bot_add, EReal.bot_add]
    | top => exact absurd hx (hne a)
    | coe r =>
      rw [← EReal.coe_sub, ← EReal.coe_sub, ← EReal.coe_sub]
      congr 1
      linarith

end Cert.Maths

end
-- ==== Proof.Scan.lean ====
/-
  What the kernel keeps from grid point to grid point, over the extended reals: in every lane the first best score so
  far with its place and its logit, and the sum of the exponentials of the logits.
-/
module

public import proofs.«01_k».proof.Proof.Final
public import proofs.«01_k».proof.Proof.Maths
public import Idealize.ShloMosaic.Lib.Pipeline.ValueKit

@[expose] public section

set_option maxRecDepth 16384

noncomputable section

namespace Cert.KernelIdeal.Scan

open Idealize.ShloMosaic Idealize.ShloMosaic.TcCoe Idealize.SL.Sem
open Cert.KernelIdeal Cert.KernelIdeal.Gen Cert.Maths

/-! ## One grid point, lane by lane -/

/-- The small number under the logarithms. -/
abbrev eps : EReal := Ideal.ofBits .f32 0x2B8CBCCC#32

/-- A choice by a strict comparison of extended reals. -/
theorem select_gt {α : Type} (a b : EReal) (x y : α) :
    Scalar.select (FloatOps.cmpf (F := Ideal) (φ := .f32) .ogt a b) x y = if b < a then x else y := by
  rw [Ideal.cmpf_def]
  unfold Ideal.cmp Scalar.select
  by_cases h : b < a <;> simp [h]

/-- The perturbed scores of a block. -/
theorem pay2_apply (x0 x1 : Vec Ideal S40x1000 .f32) (j : S40x1000.Idx) :
    (k0_pay2 x0 x1 j : EReal) = x0 j + noise eps (x1 j) := by
  have hz : (Scalar.ofBits (F := Ideal) .f32 0x00000000#32 : EReal) = 0 := Ideal.ofBits_zero_f32
  unfold k0_pay2 k0_pay1 noise
  simp only [shapeCast_self]
  show (x0 j : EReal) + ((Scalar.ofBits (F := Ideal) .f32 0x00000000#32 : EReal)
    - Ideal.log (((Scalar.ofBits (F := Ideal) .f32 0x00000000#32 : EReal) - Ideal.log ((x1 j : EReal) + eps)) + eps)) = _
  rw [hz, zero_sub, zero_sub]

/-- The words of a block's elements are their numbers. -/
theorem pay3_apply (t : Fin cfg0.N) (k : Fin 25) (hk : k.val = t.val) (j : S40x1000.Idx) :
    k0_pay3 (grid0.coords t) j = BitVec.ofNat 32 (num k j).val := by
  have hc : ((grid0.coords t) 0).val = k.val := by
    rw [hk]
    exact (by decide +kernel : ∀ u : Fin cfg0.N, ((grid0.coords u) 0).val = u.val) t
  have e : k0_pay3 (grid0.coords t) j
      = (BitVec.ofNat 32 ((grid0.coords t) 0).val * 40#32 + iota .tc S40x1000 32 [0] iota_S40x1000_d0_w32 j) * 1000#32
        + iota .tc S40x1000 32 [1] iota_S40x1000_d1_w32 j := rfl
  rw [e, iota_single_apply, iota_single_apply, hc, ← BitVec.ofNat_mul, ← BitVec.ofNat_add, ← BitVec.ofNat_mul,
    ← BitVec.ofNat_add]
  congr 1
  show (k.val * 40 + (j 0).val) * 1000 + (j 1).val = k.val * 40000 + ((j 0).val * 1000 + (j 1).val)
  omega

/-- The exponentials of a block. -/
theorem pay4_apply (x0 : Vec Ideal S40x1000 .f32) (j : S40x1000.Idx) :
    (k0_pay4 x0 j : EReal) = Ideal.exp (x0 j : EReal) := by
  unfold k0_pay4 k0_pay1
  simp only [shapeCast_self]
  rfl

/-- The logits of a block. -/
theorem pay7_apply (x0 : Vec Ideal S40x1000 .f32) (j : S40x1000.Idx) : (k0_pay7 x0 j : EReal) = x0 j := by
  unfold k0_pay7 k0_pay1
  simp only [shapeCast_self]

/-- The best score of a lane after one more block. -/
theorem pay10_apply (x0 x1 b : Vec Ideal S40x1000 .f32) (j : S40x1000.Idx) :
    (k0_pay10 x0 x1 b b j : EReal) = if (b j : EReal) < k0_pay2 x0 x1 j then (k0_pay2 x0 x1 j : EReal) else b j := by
  unfold k0_pay10 k0_pay9
  simp only [shapeCast_self]
  exact select_gt (k0_pay2 x0 x1 j) (b j) _ _

/-- The place of a lane's best score after one more block. -/
theorem pay11_apply (t : Fin cfg0.N) (x0 x1 b : Vec Ideal S40x1000 .f32) (w : S40x1000.Idx → BitVec 32)
    (j : S40x1000.Idx) :
    k0_pay11 (grid0.coords t) x0 x1 b w j
      = if (b j : EReal) < k0_pay2 x0 x1 j then k0_pay3 (grid0.coords t) j else w j := by
  unfold k0_pay11 k0_pay9
  simp only [shapeCast_self]
  exact select_gt (k0_pay2 x0 x1 j) (b j) _ _

/-- The logit of a lane's best score after one more block. -/
theorem pay12_apply (x0 x1 b l : Vec Ideal S40x1000 .f32) (j : S40x1000.Idx) :
    (k0_pay12 x0 x1 b l j : EReal) = if (b j : EReal) < k0_pay2 x0 x1 j then (x0 j : EReal) else l j := by
  unfold k0_pay12 k0_pay9 k0_pay1
  simp only [shapeCast_self]
  exact select_gt (k0_pay2 x0 x1 j) (b j) _ _

/-- The sum of a lane after one more block. -/
theorem pay13_apply (x0 s : Vec Ideal S40x1000 .f32) (j : S40x1000.Idx) :
    (k0_pay13 x0 s j : EReal) = (s j : EReal) + Ideal.exp (x0 j : EReal) := by
  rw [← pay4_apply]
  unfold k0_pay13
  simp only [shapeCast_self]
  rfl

/-! ## The lanes after every grid point -/

variable (m : (ℓ : Loc nD τ sig) → Buf (Elt Ideal) ℓ)

/-- The logit of number `k`. -/
def logit (c : Dev nD) (k : Fin 1000000) : EReal := (m ((c : Thread nD τ).loc main_arg0) : Vec Ideal S1000000 .f32) (pos k)

/-- The perturbed score of number `k`. -/
def score (c : Dev nD) (k : Fin 1000000) : EReal :=
  logit m c k + noise eps ((m ((c : Thread nD τ).loc main_arg1) : Vec Ideal S1000000 .f32) (pos k))

/-- The scores of the block at a grid point. -/
theorem block_score (c : Dev nD) (t : Fin cfg0.N) (k : Fin 25) (hk : k.val = t.val) (j : S40x1000.Idx) :
    (k0_pay2 (iblk m c 0 t : Vec Ideal S40x1000 .f32) (iblk m c 1 t : Vec Ideal S40x1000 .f32) j : EReal)
      = score m c (num k j) := by
  rw [pay2_apply, iblk0_apply m c t k hk j, iblk1_apply m c t k hk j]
  rfl

/-- The logits of the block at a grid point. -/
theorem block_logit (c : Dev nD) (t : Fin cfg0.N) (k : Fin 25) (hk : k.val = t.val) (j : S40x1000.Idx) :
    ((iblk m c 0 t : Vec Ideal S40x1000 .f32) j : EReal) = logit m c (num k j) :=
  iblk0_apply m c t k hk j

/-- What a lane holds after the point `n`, read off the carried blocks. -/
def Lane (c : Dev nD) (n : ℕ) (h : n < cfg0.N) (j : S40x1000.Idx) : Prop :=
  Kept n (fun k => score m c (num k j)) (fun k => logit m c (num k j)) (fun k => BitVec.ofNat 32 (num k j).val)
    ((outsAt0 m c n h).2.2.1 j) ((outsAt0 m c n h).2.2.2.1 j) ((outsAt0 m c n h).2.2.2.2.1 j)
    ((outsAt0 m c n h).2.2.2.2.2 j)

/-- The first point. -/
theorem lane_zero (c : Dev nD) (t : Fin cfg0.N) (h : t.val = 0) (j : S40x1000.Idx) : Lane m c t.val t.isLt j := by
  have h0 : t.val % 25 = 0 := by omega
  have h1 : ¬1 ≤ t.val := by omega
  have h2 : ¬t.val % 25 = 24 := by omega
  have hk : (0 : Fin 25).val = t.val := h.symm
  have key := Kept.zero (fun k => score m c (num k j)) (fun k => logit m c (num k j))
    (fun k => BitVec.ofNat 32 (num k j).val)
  have e1 : ((outsAt0 m c t.val t.isLt).2.2.1 j : EReal) = score m c (num 0 j) := by
    rw [first_best m c t h0 h1 h2, ← block_score m c t 0 hk j]; unfold k0_pay5; rw [shapeCast_self]
  have e2 : (outsAt0 m c t.val t.isLt).2.2.2.1 j = BitVec.ofNat 32 (num 0 j).val := by
    rw [first_idx m c t h0 h1 h2, ← pay3_apply t 0 hk j]; unfold k0_pay6; rw [shapeCast_self]
  have e3 : ((outsAt0 m c t.val t.isLt).2.2.2.2.1 j : EReal) = logit m c (num 0 j) := by
    rw [first_blog m c t h0 h1 h2, ← block_logit m c t 0 hk j]; exact pay7_apply _ j
  have e4 : ((outsAt0 m c t.val t.isLt).2.2.2.2.2 j : EReal) = Ideal.exp (logit m c (num 0 j)) := by
    rw [first_sum m c t h0 h1 h2, ← block_logit m c t 0 hk j, ← pay4_apply]; unfold k0_pay8; rw [shapeCast_self]
  unfold Lane
  rw [e1, e2, e3, e4]
  rw [← h] at key
  exact key

/-- What every later point makes of the carried blocks. -/
theorem later (c : Dev nD) (t : Fin cfg0.N) (h : 1 ≤ t.val) :
    let P := outsAt0 m c (t.val - 1) (Nat.lt_of_le_of_lt (Nat.sub_le _ _) t.isLt)
    (outsAt0 m c t.val t.isLt).2.2.1 = k0_pay10 (iblk m c 0 t) (iblk m c 1 t) P.2.2.1 P.2.2.1
    ∧ (outsAt0 m c t.val t.isLt).2.2.2.1 = k0_pay11 (grid0.coords t) (iblk m c 0 t) (iblk m c 1 t) P.2.2.1 P.2.2.2.1
    ∧ (outsAt0 m c t.val t.isLt).2.2.2.2.1 = k0_pay12 (iblk m c 0 t) (iblk m c 1 t) P.2.2.1 P.2.2.2.2.1
    ∧ (outsAt0 m c t.val t.isLt).2.2.2.2.2 = k0_pay13 (iblk m c 0 t) P.2.2.2.2.2 := by
  have h0 : ¬t.val % 25 = 0 := by have : cfg0.N = 25 := N_0; have := t.isLt; omega
  by_cases h2 : t.val % 25 = 24
  · exact ⟨last_best m c t h0 h h2, last_idx m c t h0 h h2, last_blog m c t h0 h h2, last_sum m c t h0 h h2⟩
  · exact ⟨middle_best m c t h0 h h2, middle_idx m c t h0 h h2, middle_blog m c t h0 h h2, middle_sum m c t h0 h h2⟩

/-- A later point, from the point before. -/
theorem lane_step (c : Dev nD) (t : Fin cfg0.N) (n : ℕ) (h : t.val = n + 1) (j : S40x1000.Idx)
    (ih : Lane m c (t.val - 1) (Nat.lt_of_le_of_lt (Nat.sub_le _ _) t.isLt) j) : Lane m c t.val t.isLt j := by
  obtain ⟨h1, h2, h3, h4⟩ := later m c t (by omega)
  have ht : t.val < 25 := lt_of_lt_of_eq t.isLt N_0
  unfold Lane at ih ⊢
  rw [h1, h2, h3, h4, pay10_apply, pay11_apply, pay12_apply, pay13_apply, block_score m c t ⟨t.val, ht⟩ rfl j,
    block_logit m c t ⟨t.val, ht⟩ rfl j, pay3_apply t ⟨t.val, ht⟩ rfl j]
  have key := ih.step ⟨t.val, ht⟩ (show t.val = t.val - 1 + 1 by omega)
  rw [show t.val - 1 + 1 = t.val by omega] at key
  exact key

/-- Every point. -/
theorem lane (c : Dev nD) (j : S40x1000.Idx) : ∀ (n : ℕ) (h : n < cfg0.N), Lane m c n h j
  | 0, h => lane_zero m c ⟨0, h⟩ rfl j
  | n + 1, h => lane_step m c ⟨n + 1, h⟩ n rfl j (lane c j n (Nat.lt_of_succ_lt h))

/-- After the last point a lane holds the first best of its elements, with its place and its logit, and the sum of the
    exponentials of its logits. -/
theorem lane_last (c : Dev nD) (j : S40x1000.Idx) :
    (∃ k : Fin 25, IsFirst (fun r => score m c (num r j)) k
      ∧ ((outsAt0 m c tLast.val tLast.isLt).2.2.1 j : EReal) = score m c (num k j)
      ∧ (outsAt0 m c tLast.val tLast.isLt).2.2.2.1 j = BitVec.ofNat 32 (num k j).val
      ∧ ((outsAt0 m c tLast.val tLast.isLt).2.2.2.2.1 j : EReal) = logit m c (num k j))
    ∧ ((outsAt0 m c tLast.val tLast.isLt).2.2.2.2.2 j : EReal) = ∑ r : Fin 25, Ideal.exp (logit m c (num r j)) :=
  Kept.all (lane m c j 24 tLast.isLt)

end Cert.KernelIdeal.Scan

end
-- ==== Proof.Finish.lean ====
/-
  The kernel's last step over the extended reals: the first best of all lanes, its place and the logarithm of its
  softmax, read off what the lanes hold after the last grid point.
-/
module

public import proofs.«01_k».proof.Proof.Scan

@[expose] public section

set_option maxRecDepth 16384

noncomputable section

namespace Cert.KernelIdeal.Scan

open Idealize.ShloMosaic Idealize.ShloMosaic.TcCoe Idealize.SL.Sem
open Cert.KernelIdeal Cert.KernelIdeal.Gen Cert.Maths

/-! ## Reductions of a whole block -/

/-- Every index of the block drops to the one index of the result. -/
theorem drop_all (j : S1.Idx) (i : S1x40x1000.Idx) : reduces_S1x40x1000_S1.drop i = j :=
  funext fun b => Fin.ext (by
    have hs : S1.size b = 1 := by fin_cases b; rfl
    have h1 := (reduces_S1x40x1000_S1.drop i b).isLt
    have h2 := (j b).isLt
    omega)

/-- The one value of a reduced block. -/
abbrev sole {α : Type} (x : S1.Idx → α) : α :=
  extractAt ![0, 0, 0] (shapeCast S1x1x1 x shapeCasts_S1_S1x1x1) inpos_S1x1x1_p0_0_0

/-- The block under a leading axis of one. -/
abbrev under {α : Type} (v : S40x1000.Idx → α) : S1x40x1000.Idx → α :=
  shapeCast S1x40x1000 v shapeCasts_S40x1000_S1x40x1000

/-- Where an element of the block sits under the leading axis. -/
abbrev place : S1x40x1000.Idx ≃ S40x1000.Idx := Shape.reshapeEquiv shapeCasts_S40x1000_S1x40x1000

section Unfold

variable {F : FTy → Type} [FloatOps F]

/-- The maximum of a block as the kernel takes it. -/
def blockMax (v : Vec F S40x1000 .f32) : F .f32 :=
  sole (multiReduction .maximumf [1, 2] S1 (under v) 0xFF800000#32 reduces_S1x40x1000_S1 (.inl rfl) rfl)

/-- The sum of a block as the kernel takes it. -/
def blockSum (v : Vec F S40x1000 .f32) : F .f32 :=
  sole (multiReduction .add [1, 2] S1 (under v) 0x00000000#32 reduces_S1x40x1000_S1 (.inl rfl) rfl)

/-- The signed minimum of a block as the kernel takes it. -/
def blockMin (w : IVec S40x1000 32) : BitVec 32 :=
  sole (multiReductionI .minsi [1, 2] S1 (under w) 2147483647#32 reduces_S1x40x1000_S1 rfl)

/-- The place word of the last step. -/
def bestWord (v : Vec F S40x1000 .f32) (w : Vec F S40x1000 .i32) : BitVec 32 :=
  blockMin (select (k0_pay14 v) w (broadcast S40x1000 2147483647#32))

/-- The lanes' best scores compared with their maximum. -/
theorem pay14_eq (v : Vec F S40x1000 .f32) : k0_pay14 v = cmpf .oeq v (broadcast S40x1000 (blockMax v)) := rfl

/-- The place word is what the kernel writes. -/
theorem pay15_eq (v : Vec F S40x1000 .f32) (w : Vec F S40x1000 .i32) :
    extractAt ![0, 0, 0] (k0_pay15 v w) inpos_S1x1x1_p0_0_0 = bestWord v w := rfl

/-- The logits of the lanes that hold the best score at the place `b`, minus infinity in the others. -/
def masked (v : Vec F S40x1000 .f32) (b : BitVec 32) (u : Vec F S40x1000 .i32) (l : Vec F S40x1000 .f32) :
    Vec F S40x1000 .f32 :=
  select (andi (k0_pay14 v) (cmpi .eq u (broadcast S40x1000 b))) l (broadcast S40x1000 (Scalar.ofBits .f32 0xFF800000#32))

/-- One lane of them. -/
theorem masked_at (v : Vec F S40x1000 .f32) (b : BitVec 32) (u : Vec F S40x1000 .i32) (l : Vec F S40x1000 .f32)
    (j : S40x1000.Idx) : masked v b u l j
      = Scalar.select (IntOp.andi (k0_pay14 v j) (IntOp.cmpi .eq (u j) b)) (l j) (Scalar.ofBits .f32 0xFF800000#32) := by
  unfold masked
  generalize k0_pay14 v = q
  rfl

/-- The second result in terms of the reductions. -/
theorem pay16_eq (v : Vec F S40x1000 .f32) (w u : Vec F S40x1000 .i32) (l s : Vec F S40x1000 .f32) :
    k0_pay16 v w u l s = Scalar.subf (blockMax (masked v (bestWord v w) u l)) (Scalar.log (blockSum s)) := rfl

/-- The comparison of one lane. -/
theorem pay14_at (v : Vec F S40x1000 .f32) (j : S40x1000.Idx) :
    k0_pay14 v j = FloatOps.cmpf (φ := .f32) .oeq (v j) (blockMax v) := by
  rw [pay14_eq]
  generalize blockMax v = b
  rfl

/-- The one index of a reduced block. -/
abbrev oneIdx : S1.Idx :=
  Shape.reshapeEquiv shapeCasts_S1_S1x1x1 fun a => ⟨![0, 0, 0] a, inpos_S1x1x1_p0_0_0 a⟩

/-- The maximum of a block as a fold over its elements. -/
theorem blockMax_fold [Std.Commutative (FloatOps.maximumf (F := F) (φ := .f32))]
    [Std.Associative (FloatOps.maximumf (F := F) (φ := .f32))] (v : Vec F S40x1000 .f32) :
    blockMax v = (Finset.univ.filter fun i => reduces_S1x40x1000_S1.drop i = oneIdx).fold
      (FloatOps.maximumf (F := F) (φ := .f32)) (Scalar.ofBits (F := F) .f32 0xFF800000#32) (under v) :=
  multiReduction_maximumf_eq_fold (F := F) (under v) 0xFF800000#32 reduces_S1x40x1000_S1 (.inl rfl) rfl oneIdx

/-- The sum of a block at the one index of the result. -/
theorem blockSum_eq (v : Vec F S40x1000 .f32) : blockSum v
    = multiReduction .add [1, 2] S1 (under v) 0x00000000#32 reduces_S1x40x1000_S1 (.inl rfl) rfl oneIdx := rfl

/-- A constant stays constant as a scalar. -/
theorem scalar_const {α : Type} (x : α) : shapeCast S_ (fun _ : S1.Idx => x) shapeCasts_S1_S_ = fun _ => x := rfl

end Unfold

/-- The pattern of minus infinity. -/
theorem minus_inf : (Scalar.ofBits (F := Ideal) .f32 0xFF800000#32 : EReal) = ⊥ := by
  show Ideal.ofBits .f32 0xFF800000#32 = ⊥
  simp [Ideal.ofBits, Ideal.ieee]

/-- The maximum of a block. -/
theorem sole_max (v : Vec Ideal S40x1000 .f32) (j₀ : S40x1000.Idx) (h : ∀ j, (v j : EReal) ≤ v j₀) :
    (blockMax v : EReal) = v j₀ := by
  obtain ⟨hle, i, hi⟩ := fold_max (FloatOps.maximumf (F := Ideal) (φ := .f32))
    (funext fun a => funext fun b => Ideal.maximumf_def (φ := .f32) a b) _ minus_inf
    (Finset.univ.filter fun i => reduces_S1x40x1000_S1.drop i = oneIdx)
    (fun i => Finset.mem_filter.mpr ⟨Finset.mem_univ i, drop_all _ i⟩) (under v) (place.symm j₀)
  have hf := blockMax_fold v
  rw [← hf] at hle hi
  refine le_antisymm ?_ ?_
  · rw [← hi]; exact h (place i)
  · refine le_trans (le_of_eq ?_) (hle (place.symm j₀))
    show v j₀ = v (place (place.symm j₀))
    rw [Equiv.apply_symm_apply]

/-- The sum of a block. -/
theorem sole_sum (v : Vec Ideal S40x1000 .f32) :
    (blockSum v : EReal) = ∑ j : S40x1000.Idx, (v j : EReal) := by
  refine (blockSum_eq v).trans ?_
  refine (Ideal.multiReduction_add_total (under v) 0x00000000#32 reduces_S1x40x1000_S1 (fun b => by fin_cases b; rfl)
    (.inl rfl) rfl _).trans ?_
  exact Equiv.sum_comp place fun j => (v j : EReal)

/-- The signed minimum of a block of words. -/
theorem sole_min (w : S40x1000.Idx → BitVec 32) (a : ℕ) (ha : a < 2 ^ 31) (hw : ∀ j, (a : ℤ) ≤ (w j).toInt)
    (j₀ : S40x1000.Idx) (h₀ : w j₀ = BitVec.ofNat 32 a) :
    blockMin w = BitVec.ofNat 32 a := by
  unfold blockMin sole extractAt shapeCast
  refine (multiReductionI_eq_fold .minsi (under w) 2147483647#32 reduces_S1x40x1000_S1 rfl _).trans ?_
  refine (fold_min a ha _ ?_ (under w) (fun i => hw (place i)) (place.symm j₀) ?_ _).2
    (Finset.mem_filter.mpr ⟨Finset.mem_univ _, drop_all _ _⟩)
  · rw [show (2147483647#32 : BitVec 32).toInt = 2147483647 from by decide]; omega
  · show w (place (place.symm j₀)) = _
    rw [Equiv.apply_symm_apply, h₀]

/-! ## The last step -/

/-- Where the best score of all is found. -/
theorem pay14_apply (v : Vec Ideal S40x1000 .f32) (j₀ : S40x1000.Idx) (h : ∀ j, (v j : EReal) ≤ v j₀) (j : S40x1000.Idx) :
    k0_pay14 v j = BitVec.ofBool (decide ((v j : EReal) = v j₀)) := by
  rw [pay14_at, sole_max v j₀ h, Ideal.cmpf_def]
  rfl

/-- The place of the best score: the least of the places where it is found. -/
theorem pay15_apply (v : Vec Ideal S40x1000 .f32) (w : S40x1000.Idx → BitVec 32) (n : S40x1000.Idx → ℕ)
    (hw : ∀ j, w j = BitVec.ofNat 32 (n j)) (hn : ∀ j, n j < 2 ^ 31) (j₀ : S40x1000.Idx)
    (h : ∀ j, (v j : EReal) ≤ v j₀) (hmin : ∀ j, (v j : EReal) = v j₀ → n j₀ ≤ n j) :
    extractAt ![0, 0, 0] (k0_pay15 v w) inpos_S1x1x1_p0_0_0 = BitVec.ofNat 32 (n j₀) := by
  rw [pay15_eq]
  unfold bestWord
  refine sole_min _ (n j₀) (hn j₀) (fun j => ?_) j₀ ?_
  · show (_ : ℤ) ≤ (Scalar.select (k0_pay14 v j) (w j) 2147483647#32).toInt
    rw [pay14_apply v j₀ h j]
    by_cases hj : (v j : EReal) = v j₀
    · have := hmin j hj
      simp only [Scalar.select, hj, decide_true, BitVec.ofBool_true, if_pos, hw, toInt_ofNat (hn j)]
      omega
    · have := hn j₀
      simp only [Scalar.select, hj, decide_false, BitVec.ofBool_false]
      rw [if_neg (by decide), show (2147483647#32 : BitVec 32).toInt = 2147483647 from by decide]
      omega
  · show Scalar.select (k0_pay14 v j₀) (w j₀) 2147483647#32 = _
    rw [pay14_apply v j₀ h j₀]
    simp only [Scalar.select, decide_true, BitVec.ofBool_true, if_pos, hw]

/-- The logarithm of the softmax at the best place: its logit less the logarithm of the whole sum. -/
theorem pay16_apply (v l s : Vec Ideal S40x1000 .f32) (w : S40x1000.Idx → BitVec 32) (n : S40x1000.Idx → ℕ)
    (hw : ∀ j, w j = BitVec.ofNat 32 (n j)) (hn : ∀ j, n j < 2 ^ 31) (j₀ : S40x1000.Idx)
    (h : ∀ j, (v j : EReal) ≤ v j₀) (hmin : ∀ j, (v j : EReal) = v j₀ → n j₀ ≤ n j)
    (hl : ∀ j, n j = n j₀ → (l j : EReal) = l j₀) :
    (k0_pay16 v w w l s : EReal) = (l j₀ : EReal) - Ideal.log (∑ j : S40x1000.Idx, (s j : EReal)) := by
  have hb := pay15_apply v w n hw hn j₀ h hmin
  rw [pay15_eq] at hb
  have val : ∀ j, (masked v (BitVec.ofNat 32 (n j₀)) w l j : EReal)
      = if (v j : EReal) = v j₀ ∧ n j = n j₀ then (l j : EReal) else ⊥ := fun j => by
    have hq : (w j = BitVec.ofNat 32 (n j₀)) ↔ n j = n j₀ := by
      rw [hw]
      refine ⟨fun hh => ?_, fun hh => by rw [hh]⟩
      have e := congrArg BitVec.toInt hh
      rw [toInt_ofNat (hn j), toInt_ofNat (hn j₀)] at e
      omega
    rw [masked_at, pay14_apply v j₀ h j, minus_inf]
    have hb' : (w j == BitVec.ofNat 32 (n j₀)) = decide (n j = n j₀) := by
      rw [Bool.eq_iff_iff, beq_iff_eq, decide_eq_true_eq]; exact hq
    unfold Scalar.select IntOp.andi IntOp.cmpi
    dsimp only
    rw [hb']
    by_cases h1 : (v j : EReal) = v j₀ <;> by_cases h2 : n j = n j₀ <;> simp [h1, h2]
  have top := sole_max (masked v (BitVec.ofNat 32 (n j₀)) w l) j₀ fun j => by
    rw [val j, val j₀, if_pos (⟨rfl, rfl⟩ : (v j₀ : EReal) = v j₀ ∧ n j₀ = n j₀)]
    split
    · next hj => rw [hl j hj.2]
    · exact bot_le
  rw [pay16_eq, hb, top, val j₀, if_pos (⟨rfl, rfl⟩ : (v j₀ : EReal) = v j₀ ∧ n j₀ = n j₀), sole_sum s]
  rfl

/-! ## The two results -/

/-- The lane of element number `k`, and its block. -/
def laneOf (k : Fin 1000000) : S40x1000.Idx := fun a => match a with
  | ⟨0, _⟩ => ⟨k.val % 40000 / 1000, by have := k.isLt; show _ < 40; omega⟩
  | ⟨1, _⟩ => ⟨k.val % 1000, by show _ < 1000; omega⟩

/-- The block of element number `k`. -/
def blockOf (k : Fin 1000000) : Fin 25 := ⟨k.val / 40000, by have := k.isLt; omega⟩

/-- Every number is that of its block and lane. -/
theorem num_of (k : Fin 1000000) : num (blockOf k) (laneOf k) = k := Fin.ext (by
  show k.val / 40000 * 40000 + (k.val % 40000 / 1000 * 1000 + k.val % 1000) = k.val
  omega)

/-- Block and lane together are as many as the elements. -/
theorem num_bijective : Function.Bijective fun q : S40x1000.Idx × Fin 25 => num q.2 q.1 := by
  refine ⟨fun q r h => ?_, fun k => ⟨(laneOf k, blockOf k), num_of k⟩⟩
  have e : q.2.val * 40000 + ((q.1 0).val * 1000 + (q.1 1).val) = r.2.val * 40000 + ((r.1 0).val * 1000 + (r.1 1).val) :=
    congrArg Fin.val h
  have q0 : (q.1 0).val < 40 := (q.1 0).isLt
  have q1 : (q.1 1).val < 1000 := (q.1 1).isLt
  have r0 : (r.1 0).val < 40 := (r.1 0).isLt
  have r1 : (r.1 1).val < 1000 := (r.1 1).isLt
  exact Prod.ext (Shape.idx_ext₂ (by omega) (by omega)) (Fin.ext (by omega))

/-- A sum over all elements, lane by lane and block by block. -/
theorem sum_lanes (f : Fin 1000000 → EReal) : ∑ j : S40x1000.Idx, ∑ r : Fin 25, f (num r j) = ∑ k, f k := by
  rw [← Fintype.sum_prod_type' fun (j : S40x1000.Idx) (r : Fin 25) => f (num r j)]
  exact Fintype.sum_bijective _ num_bijective _ _ fun _ => rfl

variable (m : (ℓ : Loc nD τ sig) → Buf (Elt Ideal) ℓ)

/-- The kernel's two results: the first place of the greatest score, and the logarithm of the softmax there. -/
theorem results (c : Dev nD) (a : Fin 1000000) (ha : IsFirst (score m c) a) :
    resAct m c = (fun _ => BitVec.ofNat 32 a.val)
    ∧ resLp m c = fun _ => (logit m c a - Ideal.log (∑ k, Ideal.exp (logit m c k)) : EReal) := by
  have hl := lane_last m c
  have h0 : ¬tLast.val % 25 = 0 := by decide
  have h1 : 1 ≤ tLast.val := by decide
  have h2 : tLast.val % 25 = 24 := by decide
  have eA := last_act m c tLast h0 h1 h2
  have eL := last_lp m c tLast h0 h1 h2
  choose k hk hb hi hg using fun j => (hl j).1
  have hs := fun j => (hl j).2
  revert hb hi hg hs eA eL
  unfold resAct resLp
  generalize (outsAt0 m c tLast.val tLast.isLt).2.2.1 = v
  generalize (outsAt0 m c tLast.val tLast.isLt).2.2.2.1 = w
  generalize (outsAt0 m c tLast.val tLast.isLt).2.2.2.2.1 = l
  generalize (outsAt0 m c tLast.val tLast.isLt).2.2.2.2.2 = s
  intro eA eL hb hi hg hs
  have hka : num (k (laneOf a)) (laneOf a) = a := by
    have hf : IsFirst (fun r => score m c (num r (laneOf a))) (blockOf a) := by
      refine ⟨fun r => ?_, fun r hr => ?_⟩
      · beta_reduce; rw [num_of]; exact ha.1 _
      · beta_reduce
        rw [num_of]
        refine ha.2 _ ?_
        have e : (blockOf a).val * 40000 + ((laneOf a 0).val * 1000 + (laneOf a 1).val) = a.val :=
          congrArg Fin.val (num_of a)
        have hlt : r.val < (blockOf a).val := hr
        show r.val * 40000 + ((laneOf a 0).val * 1000 + (laneOf a 1).val) < a.val
        omega
    rw [(hk (laneOf a)).unique hf, num_of]
  have hmax : ∀ j, (v j : EReal) ≤ v (laneOf a) := fun j => by
    rw [hb, hb, hka]; exact ha.1 _
  have hmin : ∀ j, (v j : EReal) = v (laneOf a) → (num (k (laneOf a)) (laneOf a)).val ≤ (num (k j) j).val := fun j hj => by
    rw [hb, hb, hka] at hj
    rw [hka]
    by_contra hc
    exact absurd (ha.2 _ (show num (k j) j < a from not_le.mp hc)) (by rw [hj]; exact lt_irrefl _)
  have hn : ∀ j, (num (k j) j).val < 2 ^ 31 := fun j => lt_trans (num (k j) j).isLt (by norm_num)
  have rA := pay15_apply v w (fun j => (num (k j) j).val) hi hn (laneOf a) hmax hmin
  have rL := pay16_apply v l s w (fun j => (num (k j) j).val) hi hn (laneOf a) hmax hmin
    (fun j hj => by rw [hg, hg, Fin.ext hj])
  rw [hka] at rA
  rw [hg, hka] at rL
  simp only [hs] at rL
  rw [sum_lanes fun k => Ideal.exp (logit m c k)] at rL
  refine ⟨?_, ?_⟩
  · have e := eA.trans (funext fun _ => rA)
    exact (congrArg (fun y => shapeCast S_ y shapeCasts_S1_S_) e).trans (scalar_const _)
  · have e := eL.trans (funext fun _ => rL)
    exact (congrArg (fun y => shapeCast S_ y shapeCasts_S1_S_) e).trans (scalar_const _)

end Cert.KernelIdeal.Scan

end
-- ==== Proof.Reference.lean ====
/-
  The reference's run: the values its two results end holding, as functions of the two arguments.
-/
module

public import proofs.«01_k».proof.Proof.Gen.ReferenceIdeal
public import Idealize.ShloMosaic.Lib.StableHlo.Run
public import Idealize.ShloMosaic.Lib.StableHlo.RunClose
public import Idealize.ShloMosaic.Lib.Tactic
public import Idealize.ShloMosaic.Lib.Quiescent

@[expose] public section

set_option maxRecDepth 16384

noncomputable section

namespace Cert.ReferenceIdeal.Value

open Idealize.ShloMosaic Idealize.ShloMosaic.TcCoe Idealize.SL.Sem
open Idealize.ShloMosaic.StableHlo
open Cert.ReferenceIdeal Cert.ReferenceIdeal.Gen

variable {F : FTy → Type} [FloatOps F]

/-- The small number added under each logarithm, in every position. -/
def small : Vec F S1000000 .f32 := broadcastInDim S1000000 ![] bcast_S_S1000000 (constant S_ .f32 0x2B8CBCCC#32)

/-- The perturbed scores: the logits plus the noise made of the uniform numbers. -/
def score (x g : Vec F S1000000 .f32) : Vec F S1000000 .f32 :=
  addf x (Host.negf (Host.log (addf (Host.negf (Host.log (addf g small))) small)))

/-- The position of the greatest entry, as the reference's reduction finds it. -/
def place (p : Vec F S1000000 .f32) : Vec F S_ .i32 :=
  fun j => (Host.argReduce reducer_argmax_f32_i32 p (iotaInDim S1000000 32 0) (constant S_ .f32 0xFF800000#32)
    (constantI S_ 32 0#32) reducesTo_S1000000_S_d0 h_S_ j).2

/-- The position found, read off the reduction. -/
theorem place_eq (p : Vec F S1000000 .f32) : place p
    = fun j => (Host.argReduce reducer_argmax_f32_i32 p (iotaInDim S1000000 32 0) (constant S_ .f32 0xFF800000#32)
        (constantI S_ 32 0#32) reducesTo_S1000000_S_d0 h_S_ j).2 := rfl

/-- The greatest logit. -/
def top (x : Vec F S1000000 .f32) : Vec F S_ .f32 :=
  maximumf (constant S_ .f32 0xFF800000#32)
    (Host.reduce FloatOps.maximumf x (constant S_ .f32 0xFF800000#32) reducesTo_S1000000_S_d0 h_S_)

/-- The greatest logit, read off the reduction. -/
theorem top_eq (x : Vec F S1000000 .f32) : top x
    = fun j => FloatOps.maximumf (Scalar.ofBits .f32 0xFF800000#32)
        (Host.reduce FloatOps.maximumf x (constant S_ .f32 0xFF800000#32) reducesTo_S1000000_S_d0 h_S_ j) := rfl

/-- The logits less the greatest. -/
def shifted (x : Vec F S1000000 .f32) : Vec F S1000000 .f32 :=
  subf x (broadcastInDim S1000000 ![0] bcast_S1_S1000000_0 (broadcastInDim S1 ![] bcast_S_S1 (top x)))

/-- The sum of the exponentials of the shifted logits. -/
def total (x : Vec F S1000000 .f32) : Vec F S_ .f32 :=
  Host.reduceAdd (Host.exp (shifted x)) (constant S_ .f32 0x00000000#32) reducesTo_S1000000_S_d0 h_S_

/-- The logarithm of the softmax of the logits. -/
def logSoftmax (x : Vec F S1000000 .f32) : Vec F S1000000 .f32 :=
  subf (shifted x) (broadcastInDim S1000000 ![0] bcast_S1_S1000000_0 (Host.log (broadcastInDim S1 ![] bcast_S_S1 (total x))))

/-- A position counted from the end when it is negative. -/
def wrapped (a : Vec F S_ .i32) : Vec F S_ .i32 :=
  select (cmpi .slt a (constantI S_ 32 0#32)) (addi a (constantI S_ 32 1000000#32)) a

/-- The entry of a vector at a position. -/
def entryAt (y : Vec F S1000000 .f32) (a : Vec F S_ .i32) : Vec F S_ .f32 :=
  shapeCast S_ (Host.dynamicSlice S1 y (fun _ => (a (Shape.Idx.first h_S_)).toInt) sliceFits_S1000000_S1) shapeCasts_S1_S_

/-- The operations that make the perturbed scores. -/
def opsScore : List (HloOp τ sig (Elt F)) :=
  [ StableHlo.nullary main_cst (constant S_ .f32 0x2B8CBCCC#32),
    StableHlo.unary main_cst main_v0 (broadcastInDim S1000000 ![] bcast_S_S1000000),
    StableHlo.binary main_arg1 main_v0 main_v1 addf,
    StableHlo.unary main_v1 main_v2 Host.log,
    StableHlo.unary main_v2 main_v3 Host.negf,
    StableHlo.nullary main_cst_0 (constant S_ .f32 0x2B8CBCCC#32),
    StableHlo.unary main_cst_0 main_v4 (broadcastInDim S1000000 ![] bcast_S_S1000000),
    StableHlo.binary main_v3 main_v4 main_v5 addf,
    StableHlo.unary main_v5 main_v6 Host.log,
    StableHlo.unary main_v6 main_v7 Host.negf,
    StableHlo.binary main_arg0 main_v7 main_v8 addf ]

/-- The operations that find the place of the greatest score. -/
def opsPlace : List (HloOp τ sig (Elt F)) :=
  [ TRef.nullary (.of main_call0_v0 : TRef sig ⟨S1000000, .i32⟩) (iotaInDim S1000000 32 0),
    TRef.nullary (.of main_call0_cst : TRef sig ⟨S_, .f32⟩) (constant S_ .f32 0xFF800000#32),
    TRef.nullary (.of main_call0_c : TRef sig ⟨S_, .i32⟩) (constantI S_ 32 0#32),
    TRef.quaternary (.of main_v8 : TRef sig ⟨S1000000, .f32⟩) (.of main_call0_v0 : TRef sig ⟨S1000000, .i32⟩) (.of main_call0_cst : TRef sig ⟨S_, .f32⟩) (.of main_call0_c : TRef sig ⟨S_, .i32⟩) (.of main_call0_v1_0 : TRef sig ⟨S_, .f32⟩)
      (fun x y u v j => (Host.argReduce reducer_argmax_f32_i32 x y u v reducesTo_S1000000_S_d0 h_S_ j).1),
    TRef.quaternary (.of main_v8 : TRef sig ⟨S1000000, .f32⟩) (.of main_call0_v0 : TRef sig ⟨S1000000, .i32⟩) (.of main_call0_cst : TRef sig ⟨S_, .f32⟩) (.of main_call0_c : TRef sig ⟨S_, .i32⟩) (.of main_v9 : TRef sig ⟨S_, .i32⟩)
      (fun x y u v j => (Host.argReduce reducer_argmax_f32_i32 x y u v reducesTo_S1000000_S_d0 h_S_ j).2) ]

/-- The operations that make the log-softmax of the logits. -/
def opsSoft : List (HloOp τ sig (Elt F)) :=
  [ TRef.nullary (.of main_call1_cst : TRef sig ⟨S_, .f32⟩) (constant S_ .f32 0xFF800000#32),
    TRef.binary (.of main_arg0 : TRef sig ⟨S1000000, .f32⟩) (.of main_call1_cst : TRef sig ⟨S_, .f32⟩) (.of main_call1_v0 : TRef sig ⟨S_, .f32⟩)
      (fun x v => Host.reduce FloatOps.maximumf x v reducesTo_S1000000_S_d0 h_S_),
    TRef.nullary (.of main_call1_cst_0 : TRef sig ⟨S_, .f32⟩) (constant S_ .f32 0xFF800000#32),
    TRef.binary (.of main_call1_cst_0 : TRef sig ⟨S_, .f32⟩) (.of main_call1_v0 : TRef sig ⟨S_, .f32⟩) (.of main_call1_v1 : TRef sig ⟨S_, .f32⟩) maximumf,
    TRef.unary (.of main_call1_v1 : TRef sig ⟨S_, .f32⟩) (.of main_call1_v2 : TRef sig ⟨S1, .f32⟩) (broadcastInDim S1 ![] bcast_S_S1),
    TRef.unary (.of main_call1_v2 : TRef sig ⟨S1, .f32⟩) (.of main_call1_v3 : TRef sig ⟨S1000000, .f32⟩) (broadcastInDim S1000000 ![0] bcast_S1_S1000000_0),
    TRef.binary (.of main_arg0 : TRef sig ⟨S1000000, .f32⟩) (.of main_call1_v3 : TRef sig ⟨S1000000, .f32⟩) (.of main_call1_v4 : TRef sig ⟨S1000000, .f32⟩) subf,
    TRef.unary (.of main_call1_v4 : TRef sig ⟨S1000000, .f32⟩) (.of main_call1_v5 : TRef sig ⟨S1000000, .f32⟩) Host.exp,
    TRef.nullary (.of main_call1_cst_1 : TRef sig ⟨S_, .f32⟩) (constant S_ .f32 0x00000000#32),
    TRef.binary (.of main_call1_v5 : TRef sig ⟨S1000000, .f32⟩) (.of main_call1_cst_1 : TRef sig ⟨S_, .f32⟩) (.of main_call1_v6 : TRef sig ⟨S_, .f32⟩)
      (fun x v => Host.reduceAdd x v reducesTo_S1000000_S_d0 h_S_),
    TRef.unary (.of main_call1_v6 : TRef sig ⟨S_, .f32⟩) (.of main_call1_v7 : TRef sig ⟨S1, .f32⟩) (broadcastInDim S1 ![] bcast_S_S1),
    TRef.unary (.of main_call1_v7 : TRef sig ⟨S1, .f32⟩) (.of main_call1_v8 : TRef sig ⟨S1, .f32⟩) Host.log,
    TRef.unary (.of main_call1_v8 : TRef sig ⟨S1, .f32⟩) (.of main_call1_v9 : TRef sig ⟨S1000000, .f32⟩) (broadcastInDim S1000000 ![0] bcast_S1_S1000000_0),
    TRef.binary (.of main_call1_v4 : TRef sig ⟨S1000000, .f32⟩) (.of main_call1_v9 : TRef sig ⟨S1000000, .f32⟩) (.of main_v10 : TRef sig ⟨S1000000, .f32⟩) subf ]

/-- The operations that pick the log-softmax at the place. -/
def opsPick : List (HloOp τ sig (Elt F)) :=
  [ StableHlo.nullary main_c (constantI S_ 32 0#32),
    StableHlo.binary main_v9 main_c main_v11 (cmpi .slt : (⟨S_, .i32⟩ : BufTy).Contents (Elt F) → (⟨S_, .i32⟩ : BufTy).Contents (Elt F) → (⟨S_, .i1⟩ : BufTy).Contents (Elt F)),
    StableHlo.nullary main_c_1 (constantI S_ 32 1000000#32),
    StableHlo.binary main_v9 main_c_1 main_v12 (addi : (⟨S_, .i32⟩ : BufTy).Contents (Elt F) → (⟨S_, .i32⟩ : BufTy).Contents (Elt F) → (⟨S_, .i32⟩ : BufTy).Contents (Elt F)),
    StableHlo.ternary main_v11 main_v12 main_v9 main_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v10 ![main_v13] ⟨S_, .i32⟩ main_v14 ((fun x i => Host.dynamicSlice S1 x (fun k => (i k (Shape.Idx.first h_S_)).toInt) sliceFits_S1000000_S1) : (⟨S1000000, .f32⟩ : BufTy).Contents (Elt F) → (Fin 1 → (⟨S_, .i32⟩ : BufTy).Contents (Elt F)) → (⟨S1, .f32⟩ : BufTy).Contents (Elt F)),
    StableHlo.reshape main_v14 main_v15 (rfl : (.f32 : EltTy) = .f32) shapeCasts_S1_S_ ]

/-- The reference's operations, in order. -/
abbrev ops : List (HloOp τ sig (Elt F)) := opsScore ++ (opsPlace ++ (opsSoft ++ opsPick))

/-- The second part is the text of the reference's position search. -/
theorem place_text : fn_argmax.body (F := F) (.of main_v8) main_call0 = seq opsPlace := rfl

/-- The third part is the text of the reference's log-softmax. -/
theorem soft_eq : fn_log_softmax.body (F := F) (.of main_arg0) main_call1 = seq opsSoft := rfl

/-- The reference's text is those operations in that order. -/
theorem main_eq (c : Dev nD) : main (F := F) c = seq ops := by
  rw [ops, seq_append, seq_append, seq_append, ← place_text, ← soft_eq]
  rfl

/-- No buffer of the reference is scoped. -/
theorem scopedRefs_eq : (Finset.univ.filter fun b : Ref sig .tc => b.isScoped) = ∅ := by decide

/-- No semaphore of the reference is scoped. -/
theorem scopedSems_eq : (Finset.univ.filter fun sm : SemLoc sig => sm.isScoped .tc) = ∅ := by decide

/-- The operations of `opsScore` touch only buffers of the host program. -/
theorem opsScore_sub : (opsScore (F := F)).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., unary_bufs_sub .., unary_bufs_sub .., binary_bufs_sub ..⟩

/-- The operations of `opsPlace` touch only buffers of the host program. -/
theorem opsPlace_sub : (opsPlace (F := F)).Forall fun op => op.bufs ⊆ tcRefs τ sig :=
  ⟨nullary_bufs_sub .., nullary_bufs_sub .., nullary_bufs_sub .., quaternary_bufs_sub .., quaternary_bufs_sub ..⟩

/-- The operations of `opsSoft` touch only buffers of the host program. -/
theorem opsSoft_sub : (opsSoft (F := F)).Forall fun op => op.bufs ⊆ tcRefs τ sig :=
  ⟨nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The operations of `opsPick` touch only buffers of the host program. -/
theorem opsPick_sub : (opsPick (F := F)).Forall fun op => op.bufs ⊆ tcRefs τ sig :=
  ⟨nullary_bufs_sub .., binary_bufs_sub .., nullary_bufs_sub .., binary_bufs_sub .., ternary_bufs_sub .., unaryIndexed_bufs_sub .., reshape_bufs_sub ..⟩

/-- Every operation touches only buffers of the host program. -/
theorem ops_sub : (ops (F := F)).Forall fun op => op.bufs ⊆ tcRefs τ sig := by
  simp only [ops, List.forall_append]
  exact ⟨opsScore_sub, opsPlace_sub, opsSoft_sub, opsPick_sub⟩

section
variable (V : Valuation τ sig (Elt F))

/-- The first part leaves the perturbed scores. -/
theorem after_score : after opsScore V main_v8 = score (V main_arg0) (V main_arg1) := by
  unfold opsScore
  after_results_entrywise []

/-- The second part leaves the place of the greatest score. -/
theorem after_place : after opsPlace V main_v9 = place (V main_v8) := by
  unfold opsPlace
  after_results_entrywise []

/-- The third part leaves the log-softmax. -/
theorem after_soft : after opsSoft V main_v10 = logSoftmax (V main_arg0) := by
  unfold opsSoft
  after_results_simp_entrywise
  simp only [TRef.ofBuf_toBuf]
  simp -implicitDefEqProofs only [TRef.ofBuf, TRef.toBuf, cast_eq]
  unfold logSoftmax total shifted top
  rfl

/-- The fourth part leaves the entry picked. -/
theorem after_pick : after opsPick V main_v15 = entryAt (V main_v10) (wrapped (F := F) (V main_v9)) := by
  unfold opsPick
  after_results_simp_entrywise
  unfold entryAt wrapped
  simp only [Matrix.cons_val_fin_one]
  rfl

/-- `opsScore` does not write `main_arg0`. -/
theorem opsScore_keeps_arg0 : after opsScore V main_arg0 = V main_arg0 := by
  unfold opsScore
  after_results_simp_entrywise

/-- `opsScore` does not write `main_arg1`. -/
theorem opsScore_keeps_arg1 : after opsScore V main_arg1 = V main_arg1 := by
  unfold opsScore
  after_results_simp_entrywise

/-- `opsPlace` does not write `main_arg0`. -/
theorem opsPlace_keeps_arg0 : after opsPlace V main_arg0 = V main_arg0 := by
  unfold opsPlace
  after_results_simp_entrywise

/-- `opsPlace` does not write `main_arg1`. -/
theorem opsPlace_keeps_arg1 : after opsPlace V main_arg1 = V main_arg1 := by
  unfold opsPlace
  after_results_simp_entrywise

/-- `opsSoft` does not write `main_arg0`. -/
theorem opsSoft_keeps_arg0 : after opsSoft V main_arg0 = V main_arg0 := by
  unfold opsSoft
  after_results_simp_entrywise

/-- `opsSoft` does not write `main_arg1`. -/
theorem opsSoft_keeps_arg1 : after opsSoft V main_arg1 = V main_arg1 := by
  unfold opsSoft
  after_results_simp_entrywise

/-- `opsSoft` does not write `main_v9`. -/
theorem opsSoft_keeps_v9 : after opsSoft V main_v9 = V main_v9 := by
  unfold opsSoft
  after_results_simp_entrywise

/-- `opsPick` does not write `main_arg0`. -/
theorem opsPick_keeps_arg0 : after opsPick V main_arg0 = V main_arg0 := by
  unfold opsPick
  after_results_simp_entrywise

/-- `opsPick` does not write `main_arg1`. -/
theorem opsPick_keeps_arg1 : after opsPick V main_arg1 = V main_arg1 := by
  unfold opsPick
  after_results_simp_entrywise

/-- `opsPick` does not write `main_v9`. -/
theorem opsPick_keeps_v9 : after opsPick V main_v9 = V main_v9 := by
  unfold opsPick
  after_results_simp_entrywise

/-- A line of operations run after another is run from what the first left. -/
theorem after_append (l k : List (HloOp τ sig (Elt F))) : after (l ++ k) V = after k (after l V) := by
  induction l generalizing V with
  | nil => rfl
  | cons o l ih => exact ih _

/-- The first result of the whole line. -/
theorem after_ops_place : after ops V main_v9 = place (score (V main_arg0) (V main_arg1)) := by
  rw [ops, after_append, after_append, after_append, opsPick_keeps_v9, opsSoft_keeps_v9, after_place, after_score]

/-- The second result of the whole line. -/
theorem after_ops_entry : after ops V main_v15
    = entryAt (logSoftmax (V main_arg0)) (wrapped (F := F) (place (score (V main_arg0) (V main_arg1)))) := by
  rw [ops, after_append, after_append, after_append, after_pick, after_soft, opsSoft_keeps_v9, after_place, after_score,
    opsPlace_keeps_arg0, opsScore_keeps_arg0]

/-- The first argument ends as it was. -/
theorem after_ops_arg0 : after ops V main_arg0 = V main_arg0 := by
  rw [ops, after_append, after_append, after_append, opsPick_keeps_arg0, opsSoft_keeps_arg0, opsPlace_keeps_arg0, opsScore_keeps_arg0]

/-- The second argument ends as it was. -/
theorem after_ops_arg1 : after ops V main_arg1 = V main_arg1 := by
  rw [ops, after_append, after_append, after_append, opsPick_keeps_arg1, opsSoft_keeps_arg1, opsPlace_keeps_arg1, opsScore_keeps_arg1]

end

variable (m : (ℓ : Loc nD τ sig) → Buf (Elt F) ℓ) (ρ : Dev nD → PrngReg)

/-- The reference's run: the first result is the place of the greatest perturbed score, the second the entry of the
    log-softmax there, and the arguments end as they were. -/
theorem run : θ_run (defs (F := F)) (onTc (τ := τ) (main (F := F))) ⟨m, fun _ => 0, ρ⟩ (fun r => ∀ c : Dev nD,
      r.2.mem ((c.tc : Thread nD τ).loc main_v9)
        = place (score (m ((c.tc : Thread nD τ).loc main_arg0)) (m ((c.tc : Thread nD τ).loc main_arg1)))
      ∧ r.2.mem ((c.tc : Thread nD τ).loc main_v15)
        = entryAt (logSoftmax (m ((c.tc : Thread nD τ).loc main_arg0)))
            (wrapped (F := F) (place (score (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => by
      obtain rfl : c = 0 := Subsingleton.elim _ _
      exact ⟨(h 0 main_v9).trans (after_ops_place _), (h 0 main_v15).trans (after_ops_entry _),
        (h 0 main_arg0).trans (after_ops_arg0 _), (h 0 main_arg1).trans (after_ops_arg1 _)⟩)
    (run_seq scopedRefs_eq scopedSems_eq defs main (fun _ => ops) main_eq (fun _ => ops_sub) m ρ)

/-- The reference leaves its arguments alone and every semaphore counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2.2, Idealize.ShloMosaic.sem_eq_zero_of_no_sems (by decide) r.2⟩) (run m ρ)

end Cert.ReferenceIdeal.Value

end
-- ==== Proof.RefValue.lean ====
/-
  What the reference computes, over the extended reals: the first place of the greatest perturbed score, and the
  logarithm of the softmax of the logits there.
-/
module

public import proofs.«01_k».proof.Proof.Reference
public import proofs.«01_k».proof.Proof.Maths
public import Idealize.ShloMosaic.Lib.IdealHost
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Maths

/-- Number `k` as an index of the flat arrays. -/
def pos (k : Fin 1000000) : S1000000.Idx := fun a => ⟨k.val, by fin_cases a; exact k.isLt⟩

/-- Numbers and indices of the flat arrays correspond. -/
def posEquiv : Fin 1000000 ≃ S1000000.Idx where
  toFun := pos
  invFun j := ⟨(j 0).val, (j 0).isLt⟩
  left_inv k := rfl
  right_inv j := funext fun a => by fin_cases a; rfl

/-- The flat arrays have a million elements. -/
theorem numel_flat : S1000000.numel = 1000000 := by
  show (∏ a : Fin 1, (![1000000] : Fin 1 → ℕ) a) = 1000000
  rw [Fin.prod_univ_one]
  rfl

/-- The element at row-major position `n` is the one of number `n`. -/
theorem symm_flat (n : Fin S1000000.numel) : S1000000.rowMajor.symm n = pos (n.cast numel_flat) :=
  (S1000000.rowMajor.symm_apply_eq).2 (Fin.ext (by
    rw [show (S1000000.rowMajor (pos (n.cast numel_flat))).val = (pos (n.cast numel_flat) 0).val from Shape.rowMajor_val_one _]
    rfl))

/-- A fold over the numbers below `N` is the fold over the numbers below an equal `n`. -/
theorem foldl_cast {β : Type} {N n : ℕ} (h : N = n) (f : β → Fin n → β) (b : β) :
    (List.finRange N).foldl (fun r k => f r (k.cast h)) b = (List.finRange n).foldl f b := by
  subst h; rfl

/-- The reference's choice between two pairs, on the extended reals. -/
theorem reducer_eq (a b : EReal × BitVec 32) : reducer_argmax_f32_i32 (F := Ideal) a b = better a b := by
  obtain ⟨u, i⟩ := a
  obtain ⟨v, k⟩ := b
  unfold reducer_argmax_f32_i32 better
  simp only [Ideal.cmpf_def, Ideal.cmp, Scalar.select]
  generalize IntOp.cmpi .slt i k = c
  obtain rfl | rfl : c = 0#1 ∨ c = 1#1 := by revert c; decide
  all_goals
    by_cases h1 : v < u
    · have h2 : ¬ u = v := fun h => absurd h1 (by rw [h]; exact lt_irrefl _)
      simp [h1, h2, IntOp.ori, IntOp.andi]
    · by_cases h2 : u = v
      · simp [h2, IntOp.ori, IntOp.andi]
      · simp [h1, h2, IntOp.ori, IntOp.andi]

/-- The pattern of minus infinity is minus infinity. -/
theorem neg_inf : (Scalar.ofBits (F := Ideal) .f32 0xFF800000#32 : EReal) = ⊥ := by
  show Ideal.ofBits .f32 0xFF800000#32 = ⊥
  simp [Ideal.ofBits, Ideal.ieee]

/-- The reference's position search ends at the first place of the maximum. -/
theorem place_eq_first (p : Vec Ideal S1000000 .f32) :
    ∃ a : Fin 1000000, IsFirst (fun k => (p (pos k) : EReal)) a ∧ place p = fun _ => BitVec.ofNat 32 a.val := by
  obtain ⟨a, ha, e⟩ := search_first_pos 1000000 (by norm_num) (by norm_num) (fun k => (p (pos k) : EReal))
  refine ⟨a, ha, funext fun j => ?_⟩
  rw [place_eq, Ideal.argReduce_eq_reduce2]
  unfold Host.reduce2
  beta_reduce
  rw [List.filter_eq_self.2 fun n _ => decide_eq_true (funext fun b => b.elim0)]
  have hf : (fun (r : EReal × BitVec 32) (n : Fin S1000000.numel) => reducer_argmax_f32_i32 (F := Ideal) r
      (p (S1000000.rowMajor.symm n), iotaInDim S1000000 32 0 (S1000000.rowMajor.symm n)))
      = fun r n => better r (p (pos (n.cast numel_flat)), BitVec.ofNat 32 (n.cast numel_flat).val) :=
    funext fun r => funext fun n => by rw [reducer_eq, symm_flat]; rfl
  have hi : ((constant (F := Ideal) S_ .f32 0xFF800000#32 (Shape.Idx.first h_S_), constantI S_ 32 0#32 (Shape.Idx.first h_S_)) : EReal × BitVec 32)
      = (⊥, 0#32) := Prod.ext neg_inf rfl
  have key : ∀ (f : EReal × BitVec 32 → Fin S1000000.numel → EReal × BitVec 32) (b : EReal × BitVec 32),
      f = (fun r n => better r (p (pos (n.cast numel_flat)), BitVec.ofNat 32 (n.cast numel_flat).val)) → b = (⊥, 0#32) →
      (List.foldl f b (List.finRange S1000000.numel)).2 = BitVec.ofNat 32 a.val := by
    intro f b h1 h2
    rw [h1, h2, foldl_cast numel_flat (fun (r : EReal × BitVec 32) k => better r (p (pos k), BitVec.ofNat 32 k.val)), e]
  exact key _ _ hf hi

/-- A scalar spread over the flat array in two steps reads the scalar everywhere. -/
theorem spread (y : S_.Idx → EReal) (j : S1000000.Idx) :
    broadcastInDim S1000000 ![0] bcast_S1_S1000000_0 (broadcastInDim S1 ![] bcast_S_S1 y) j = y (Shape.Idx.first h_S_) := by
  unfold broadcastInDim
  exact congrArg y (funext fun a => a.elim0)

/-- The perturbed score, element by element. -/
theorem score_apply (x g : Vec Ideal S1000000 .f32) (j : S1000000.Idx) :
    (score x g j : EReal) = x j + noise (Ideal.ofBits .f32 0x2B8CBCCC#32) (g j) := by
  have hs : (small (F := Ideal) j : EReal) = Ideal.ofBits .f32 0x2B8CBCCC#32 := by
    unfold small broadcastInDim
    rfl
  unfold noise
  rw [← hs]
  rfl

/-- The logarithm of a scalar, spread over the flat array. -/
theorem spread_log (y : Vec Ideal S_ .f32) (j : S1000000.Idx) :
    (broadcastInDim S1000000 ![0] bcast_S1_S1000000_0 (Host.log (F := Ideal) (φ := .f32) (broadcastInDim S1 ![] bcast_S_S1 y)) j : EReal)
      = Ideal.log (y (Shape.Idx.first h_S_)) := by
  unfold broadcastInDim
  exact congrArg (fun i => Ideal.log (y i)) (funext fun a => a.elim0)

/-- A difference with a spread scalar, element by element. -/
theorem sub_spread (x : Vec Ideal S1000000 .f32) (y : Vec Ideal S_ .f32) (j : S1000000.Idx) :
    (subf (F := Ideal) (φ := .f32) x (broadcastInDim S1000000 ![0] bcast_S1_S1000000_0 (broadcastInDim S1 ![] bcast_S_S1 y)) j : EReal)
      = x j - y (Shape.Idx.first h_S_) :=
  congrArg (fun t : EReal => (x j : EReal) - t) (spread y j)

/-- The greatest logit bounds every logit and is one of them. -/
theorem top_spec (x : Vec Ideal S1000000 .f32) :
    (∀ j, (x j : EReal) ≤ top x (Shape.Idx.first h_S_)) ∧ ∃ j, (x j : EReal) = top x (Shape.Idx.first h_S_) := by
  rw [top_eq]
  beta_reduce
  rw [Ideal.maximumf_def, neg_inf, max_eq_right bot_le, Host.reduce_eq_fold]
  exact fold_max _ (funext fun a => funext fun b => Ideal.maximumf_def (φ := .f32) a b) _ neg_inf _
    (fun i => Finset.mem_filter.mpr ⟨Finset.mem_univ i, funext fun b => b.elim0⟩) x (pos 0)

/-- The sum of the exponentials of the shifted logits. -/
theorem total_apply (x : Vec Ideal S1000000 .f32) (j : S_.Idx) :
    (total x j : EReal) = ∑ k, Ideal.exp ((x (pos k) : EReal) - top x (Shape.Idx.first h_S_)) := by
  unfold total shifted
  rw [ValueIdx.hostReduceAdd_apply, Ideal.hostReduceAdd_total _ (fun b => b.elim0),
    show ((constant (F := Ideal) S_ .f32 0x00000000#32 (Shape.Idx.first h_S_)) : EReal) = 0 from Ideal.ofBits_zero_f32, zero_add,
    ← Equiv.sum_comp posEquiv]
  exact Finset.sum_congr rfl fun k _ => congrArg Ideal.exp (sub_spread x (top x) (pos k))

/-- A difference of two differences, element by element. -/
theorem sub_sub_spread (x : Vec Ideal S1000000 .f32) (y z : Vec Ideal S_ .f32) (j : S1000000.Idx) :
    (subf (F := Ideal) (φ := .f32)
        (subf x (broadcastInDim S1000000 ![0] bcast_S1_S1000000_0 (broadcastInDim S1 ![] bcast_S_S1 y)))
        (broadcastInDim S1000000 ![0] bcast_S1_S1000000_0 (Host.log (broadcastInDim S1 ![] bcast_S_S1 z))) j : EReal)
      = (x j - y (Shape.Idx.first h_S_)) - Ideal.log (z (Shape.Idx.first h_S_)) :=
  congrArg₂ (fun s t : EReal => s - t) (sub_spread x y j) (spread_log z j)

/-- The log-softmax, element by element: the logit less the logarithm of the sum of all the exponentials. -/
theorem logSoftmax_apply (x : Vec Ideal S1000000 .f32) (a : Fin 1000000) :
    (logSoftmax x (pos a) : EReal) = x (pos a) - Ideal.log (∑ k, Ideal.exp (x (pos k) : EReal)) := by
  unfold logSoftmax shifted
  rw [sub_sub_spread, total_apply]
  obtain ⟨h1, j, h2⟩ := top_spec x
  refine log_softmax_eq (fun k => (x (pos k) : EReal)) _ (fun k => h1 _) ⟨posEquiv.symm j, ?_⟩ a
  exact (congrArg x (posEquiv.apply_symm_apply j)).trans h2

/-- A place that is not negative is not counted from the end. -/
theorem wrapped_apply (a : Fin 1000000) :
    wrapped (F := Ideal) (fun _ => BitVec.ofNat 32 a.val) = fun _ => BitVec.ofNat 32 a.val := by
  funext j
  have h : IntOp.cmpi .slt (BitVec.ofNat 32 a.val) 0#32 = 0#1 := by
    have := slt_ofNat (a := a.val) (b := 0) (by have := a.isLt; omega) (by norm_num)
    rw [this]; rfl
  show Scalar.select (IntOp.cmpi .slt (BitVec.ofNat 32 a.val) 0#32) _ _ = _
  rw [h]
  rfl

/-- The entry at a place is the element of that number. -/
theorem entryAt_apply (y : Vec Ideal S1000000 .f32) (a : Fin 1000000) :
    entryAt y (fun _ => BitVec.ofNat 32 a.val) = fun _ => y (pos a) := by
  funext j
  unfold entryAt shapeCast Host.dynamicSlice extractStridedSlice
  refine congrArg y (funext fun b => ?_)
  fin_cases b
  refine Fin.ext ?_
  have ht := toInt_ofNat (a := a.val) (by have := a.isLt; omega)
  have hr : ∀ r : Fin 1, (min (max ((BitVec.ofNat 32 a.val).toInt) 0) ((1000000 - 1 : ℕ) : ℤ)).toNat + r.val = a.val := by
    intro r
    rw [ht]
    have := a.isLt
    have := r.isLt
    omega
  exact hr _

/-- What the reference leaves, from the two arguments: the first place of the greatest perturbed score, and the logit
    there less the logarithm of the sum of all the exponentials. -/
theorem values (x g : Vec Ideal S1000000 .f32) : ∃ a : Fin 1000000,
    IsFirst (fun k => (x (pos k) : EReal) + noise (Ideal.ofBits .f32 0x2B8CBCCC#32) (g (pos k))) a
    ∧ place (score x g) = (fun _ => BitVec.ofNat 32 a.val)
    ∧ entryAt (logSoftmax x) (wrapped (F := Ideal) (place (score x g)))
        = fun _ => ((x (pos a) : EReal) - Ideal.log (∑ k, Ideal.exp (x (pos k) : EReal))) := by
  obtain ⟨a, ha, e⟩ := place_eq_first (score x g)
  refine ⟨a, ?_, e, ?_⟩
  · rwa [show (fun k => (score x g (pos k) : EReal)) = _ from funext fun k => score_apply x g (pos k)] at ha
  · rw [e, wrapped_apply, entryAt_apply]
    exact funext fun _ => logSoftmax_apply x a

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Finish
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- On the same arguments the kernel's last point and the reference leave the same two results. -/
theorem same (m : (ℓ : Loc Cert.KernelIdeal.nD Cert.KernelIdeal.τ Cert.KernelIdeal.sig) → Buf (Elt Ideal) ℓ)
    (c : Dev Cert.KernelIdeal.nD) (x g : Vec Ideal Cert.ReferenceIdeal.S1000000 .f32)
    (hx : x = m ((c.tc : Thread Cert.KernelIdeal.nD Cert.KernelIdeal.τ).loc Cert.KernelIdeal.main_arg0))
    (hg : g = m ((c.tc : Thread Cert.KernelIdeal.nD Cert.KernelIdeal.τ).loc Cert.KernelIdeal.main_arg1)) :
    Cert.ReferenceIdeal.Value.place (Cert.ReferenceIdeal.Value.score x g) = Cert.KernelIdeal.Scan.resAct m c
    ∧ Cert.ReferenceIdeal.Value.entryAt (Cert.ReferenceIdeal.Value.logSoftmax x)
        (Cert.ReferenceIdeal.Value.wrapped (F := Ideal) (Cert.ReferenceIdeal.Value.place (Cert.ReferenceIdeal.Value.score x g)))
      = Cert.KernelIdeal.Scan.resLp m c := by
  obtain ⟨a, ha, e1, e2⟩ := Cert.ReferenceIdeal.Value.values x g
  subst hx hg
  obtain ⟨k1, k2⟩ := Cert.KernelIdeal.Scan.results m c a ha
  exact ⟨e1.trans k1.symm, e2.trans k2.symm⟩

/-- The kernel and the reference, from the same arguments, end with equal results. -/
theorem algebraic : @Cert.algebraic_KernelIdeal_ReferenceIdeal Cert.KernelIdeal.Gen.facts Cert.ReferenceIdeal.Gen.facts := by
  intro m g m' g' _ h
  refine ⟨Cert.KernelIdeal.Scan.resAct m, Cert.KernelIdeal.Scan.resLp m, Cert.KernelIdeal.Scan.run m g, ?_⟩
  refine (θ_run _ _ _).mono (fun r hr c => ?_) (Cert.ReferenceIdeal.Value.run m' g')
  obtain ⟨r1, r2, r3, r4⟩ := hr c
  obtain ⟨s1, s2⟩ := same m c _ _ (h c).1 (h c).2
  exact ⟨r1.trans s1, r2.trans s2, r3, r4⟩

/-- All the claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Value.frame m g, trivial, algebraic⟩

end Cert.Proof

end
